-- ==== Defs.lean ====
def Pre_Kernel [hPre_two_ways_Kernel : Cert.Pre_two_ways_Kernel.Facts] (m : (ℓ : Loc Cert.Kernel.nD Cert.Kernel.τ Cert.Kernel.sig) → Buf (Elt Bits) ℓ) : Prop :=
  ∀ c : Dev Cert.Kernel.nD,
    (Cert.Pre_two_ways_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_two_ways_Kernel : Cert.Pre_two_ways_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_two_ways_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_two_ways_ReferenceIdeal [hPre_two_ways_ReferenceIdeal : Cert.Pre_two_ways_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_two_ways_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_two_ways_Kernel : Cert.Pre_two_ways_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_two_ways_Kernel : Cert.Pre_two_ways_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_two_ways_ReferenceIdeal [hReferenceIdeal : Cert.ReferenceIdeal.Facts] [hPre_two_ways_ReferenceIdeal : Cert.Pre_two_ways_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_two_ways_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_on_balanced [hKernelIdeal : Cert.KernelIdeal.Facts] [hReferenceIdeal : Cert.ReferenceIdeal.Facts] [hPre_two_ways_Kernel : Cert.Pre_two_ways_Kernel.Facts] [hOn_balanced : Cert.On_balanced.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![512, 256]⟩ ⟨2, ![1024, 256]⟩ (Layout.meshBlock [2, 2, 2] ![[0], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![1, 512]⟩ ⟨2, ![2, 512]⟩ (Layout.meshBlock [2, 2, 2] ![[0], []] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![512, 256]⟩ : Shape).Idx, (Layout.blockN ⟨2, ![512, 256]⟩ ⟨2, ![1024, 256]⟩ (Layout.meshBlock [2, 2, 2] ![[0], []] c) ((Cert.On_balanced.fn (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)))) : (⟨2, ![512, 256]⟩ : Shape).Idx → _) i = 1#1 → r.2.mem ((c.tc : Thread Cert.KernelIdeal.nD Cert.KernelIdeal.τ).loc Cert.KernelIdeal.main_v1) i = (Layout.blockN ⟨2, ![512, 256]⟩ ⟨2, ![1024, 256]⟩ (Layout.meshBlock [2, 2, 2] ![[0], []] c) v0 : (⟨2, ![512, 256]⟩ : Shape).Idx → _) i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          (∀ i : (⟨2, ![1024, 256]⟩ : Shape).Idx, (Cert.On_balanced.fn (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1))) i = 1#1 → r.2.mem (((0 : Dev Cert.ReferenceIdeal.nD).tc : Thread Cert.ReferenceIdeal.nD Cert.ReferenceIdeal.τ).loc Cert.ReferenceIdeal.main_v8) i = v0 i)
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_two_ways_Kernel : Cert.Pre_two_ways_Kernel.Facts) (hPre_two_ways_ReferenceIdeal : Cert.Pre_two_ways_ReferenceIdeal.Facts) (hOn_balanced : Cert.On_balanced.Facts),
    quiescent_Kernel (hKernel := hKernel) (hPre_two_ways_Kernel := hPre_two_ways_Kernel)
    ∧ quiescent_KernelIdeal (hKernelIdeal := hKernelIdeal) (hPre_two_ways_Kernel := hPre_two_ways_Kernel)
    ∧ quiescent_ReferenceIdeal (hReferenceIdeal := hReferenceIdeal)
    ∧ quiescent_ReferenceIdeal_pre_two_ways_ReferenceIdeal (hReferenceIdeal := hReferenceIdeal) (hPre_two_ways_ReferenceIdeal := hPre_two_ways_ReferenceIdeal)
    ∧ preserves_Kernel_KernelIdeal
    ∧ algebraic_KernelIdeal_ReferenceIdeal_on_balanced (hKernelIdeal := hKernelIdeal) (hReferenceIdeal := hReferenceIdeal) (hPre_two_ways_Kernel := hPre_two_ways_Kernel) (hOn_balanced := hOn_balanced)
-- ==== On_balanced.lean ====
abbrev S1024x256 : Shape := ⟨2, ![1024, 256]⟩
abbrev S2x512 : Shape := ⟨2, ![2, 512]⟩
abbrev S_ : Shape := ⟨0, ![]⟩

class Facts : Prop where
  bcast_S_S2x512 : S_.BroadcastsInDim S2x512 (![] : Fin 0 → Fin S2x512.rank)
  natLt_1_32 : 1 < 32
  reducesTo_S2x512_S_d0_1 : S2x512.ReducesTo [0, 1] S_
  h_S_ : 0 < S_.numel
  bcast_S_S1024x256 : S_.BroadcastsInDim S1024x256 (![] : Fin 0 → Fin S1024x256.rank)

variable [Facts]

def fn {F : FTy → Type} [FloatOps F] (main_arg0 : FVec F S1024x256 .f32) (main_arg1 : IVec S2x512 32) : IVec S1024x256 1 :=
  let main_c : IVec S_ 32 := constantI S_ 32 0#32
  let main_v0 : IVec S2x512 32 := broadcastInDim S2x512 ![] bcast_S_S2x512 main_c
  let main_v1 : IVec S2x512 1 := cmpi .eq main_arg1 main_v0
  let main_v2 : IVec S2x512 32 := (extui 32 · natLt_1_32) main_v1
  let main_c_0 : IVec S_ 32 := constantI S_ 32 0#32
  let main_v3 : IVec S_ 32 := (fun x v => Host.reduce IntOp.addi x v reducesTo_S2x512_S_d0_1 h_S_) main_v2 main_c_0
  let main_c_1 : IVec S_ 32 := constantI S_ 32 512#32
  let main_v4 : IVec S_ 1 := cmpi .eq main_v3 main_c_1
  let main_v5 : IVec S1024x256 1 := broadcastInDim S1024x256 ![] bcast_S_S1024x256 main_v4
  main_v5
-- ==== Pre_two_ways_Kernel.lean ====
abbrev S512x256 : Shape := ⟨2, ![512, 256]⟩
abbrev S1x512 : Shape := ⟨2, ![1, 512]⟩
abbrev S_ : Shape := ⟨0, ![]⟩

class Facts : Prop where
  bcast_S_S1x512 : S_.BroadcastsInDim S1x512 (![] : Fin 0 → Fin S1x512.rank)

variable [Facts]

def fn {F : FTy → Type} [FloatOps F] (main_arg0 : FVec F S512x256 .f32) (main_arg1 : IVec S1x512 32) : IVec S1x512 1 :=
  let main_c : IVec S_ 32 := constantI S_ 32 0#32
  let main_v0 : IVec S1x512 32 := broadcastInDim S1x512 ![] bcast_S_S1x512 main_c
  let main_v1 : IVec S1x512 1 := cmpi .eq main_arg1 main_v0
  let main_c_0 : IVec S_ 32 := constantI S_ 32 1#32
  let main_v2 : IVec S1x512 32 := broadcastInDim S1x512 ![] bcast_S_S1x512 main_c_0
  let main_v3 : IVec S1x512 1 := cmpi .eq main_arg1 main_v2
  let main_v4 : IVec S1x512 1 := ori main_v1 main_v3
  main_v4
-- ==== Pre_two_ways_ReferenceIdeal.lean ====
abbrev S1024x256 : Shape := ⟨2, ![1024, 256]⟩
abbrev S2x512 : Shape := ⟨2, ![2, 512]⟩
abbrev S_ : Shape := ⟨0, ![]⟩

class Facts : Prop where
  bcast_S_S2x512 : S_.BroadcastsInDim S2x512 (![] : Fin 0 → Fin S2x512.rank)

variable [Facts]

def fn {F : FTy → Type} [FloatOps F] (main_arg0 : FVec F S1024x256 .f32) (main_arg1 : IVec S2x512 32) : IVec S2x512 1 :=
  let main_c : IVec S_ 32 := constantI S_ 32 0#32
  let main_v0 : IVec S2x512 32 := broadcastInDim S2x512 ![] bcast_S_S2x512 main_c
  let main_v1 : IVec S2x512 1 := cmpi .eq main_arg1 main_v0
  let main_c_0 : IVec S_ 32 := constantI S_ 32 1#32
  let main_v2 : IVec S2x512 32 := broadcastInDim S2x512 ![] bcast_S_S2x512 main_c_0
  let main_v3 : IVec S2x512 1 := cmpi .eq main_arg1 main_v2
  let main_v4 : IVec S2x512 1 := ori main_v1 main_v3
  main_v4
-- ==== Kernel.lean ====
abbrev S512x256 : Shape := ⟨2, ![512, 256]⟩
abbrev S1x512 : Shape := ⟨2, ![1, 512]⟩
abbrev S9 : Shape := ⟨1, ![9]⟩
abbrev S_ : Shape := ⟨0, ![]⟩
abbrev S1 : Shape := ⟨1, ![1]⟩
abbrev S512x512 : Shape := ⟨2, ![512, 512]⟩
abbrev S1x1x512 : Shape := ⟨3, ![1, 1, 512]⟩
abbrev S1x1x1 : Shape := ⟨3, ![1, 1, 1]⟩
abbrev S64x256 : Shape := ⟨2, ![64, 256]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S512x256, .f32⟩
  | .hbm, ⟨1, _⟩ => ⟨S1x512, .i32⟩
  | .hbm, ⟨2, _⟩ => ⟨S512x256, .f32⟩
  | .local _ .vmem, ⟨0, _⟩ => ⟨S512x256, .f32⟩
  | .local _ .vmem, ⟨1, _⟩ => ⟨S1x512, .i32⟩
  | .local _ .vmem, ⟨2, _⟩ => ⟨S512x256, .f32⟩
  | .local _ .vmem, ⟨3, _⟩ => ⟨S512x256, .f32⟩
  | .local _ .vmem, ⟨4, _⟩ => ⟨S1x512, .i32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  (ofTc nBuf bufTy 1 21 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_5 : BitVec 32 := 4#32
  let v11 : BitVec 32 := Scalar.muli v9 c4_i32_5
  let v12 : BitVec 32 := Scalar.addi c0_i32 v11
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_6 : BitVec 32 := 2#32
  let v13 : BitVec 32 := Scalar.muli v5 c2_i32_6
  let v14 : BitVec 32 := Scalar.addi v12 v13
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_7 : BitVec 32 := 1#32
  let v15 : BitVec 32 := Scalar.muli v8 c1_i32_7
  let v16 : BitVec 32 := Scalar.addi v14 v15
  v16.toNat
def k0_dev2 (d0 : Dev nD) : Nat :=
  let c0_i32_11 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_10 : BitVec 32 := 4#32
  let v17 : BitVec 32 := Scalar.muli v9 c4_i32_10
  let v18 : BitVec 32 := Scalar.addi c0_i32_11 v17
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_12 : BitVec 32 := 2#32
  let v19 : BitVec 32 := Scalar.muli v5 c2_i32_12
  let v20 : BitVec 32 := Scalar.addi v18 v19
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_13 : BitVec 32 := 1#32
  let v21 : BitVec 32 := Scalar.muli v8 c1_i32_13
  let v22 : BitVec 32 := Scalar.addi v20 v21
  v22.toNat
def k0_off1 (d0 : Dev nD) (v46 : BitVec 32) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c512_i32 : BitVec 32 := 512#32
  let c64_i32 : BitVec 32 := 64#32
  let v47 : BitVec 32 := Scalar.addi v46 c64_i32
  let c1_i32_17 : BitVec 32 := 1#32
  let v48 : BitVec 32 := Scalar.subi v47 c1_i32_17
  let c0_i32_19 : BitVec 32 := 0#32
  let v50 : BitVec 1 := Scalar.cmpi .sgt v48 c0_i32_19
  let v51 : BitVec 32 := Scalar.extui v50
  let c0_i32_20 : BitVec 32 := 0#32
  let v52 : BitVec 1 := Scalar.cmpi .slt v48 c0_i32_20
  let v53 : BitVec 32 := Scalar.extui v52
  let v54 : BitVec 32 := Scalar.subi v51 v53
  let c64_i32_18 : BitVec 32 := 64#32
  let c0_i32_21 : BitVec 32 := 0#32
  let v55 : BitVec 1 := Scalar.cmpi .sgt c64_i32_18 c0_i32_21
  let v56 : BitVec 32 := Scalar.extui v55
  let c0_i32_22 : BitVec 32 := 0#32
  let v57 : BitVec 1 := Scalar.cmpi .slt c64_i32_18 c0_i32_22
  let v58 : BitVec 32 := Scalar.extui v57
  let v59 : BitVec 32 := Scalar.subi v56 v58
  let v60 : BitVec 1 := Scalar.cmpi .ne v54 v59
  let v61 : BitVec 32 := Scalar.remsi v48 c64_i32_18
  let c0_i32_23 : BitVec 32 := 0#32
  let v62 : BitVec 1 := Scalar.cmpi .ne v61 c0_i32_23
  let v63 : BitVec 1 := Scalar.andi v60 v62
  let v49 : BitVec 32 := Scalar.divsi v48 c64_i32_18
  let c1_i32_24 : BitVec 32 := 1#32
  let v64 : BitVec 32 := Scalar.subi v49 c1_i32_24
  let v65 : BitVec 32 := Scalar.select v63 v64 v49
  let c64_i32_26 : BitVec 32 := 64#32
  let v69 : BitVec 32 := Scalar.muli v65 c64_i32_26
  let v70 : BitVec 32 := Scalar.subi c512_i32 v69
  let v71 : BitVec 32 := Scalar.muli v2 v70
  let c0_i32_107 : BitVec 32 := 0#32
  let v230 : BitVec 32 := Scalar.addi v71 c0_i32_107
  let c0_i32_114 : BitVec 32 := 0#32
  ![v230.toNat, 0]
def k0_cond1 (v46 : BitVec 32) : BitVec 1 :=
  let c64_i32 : BitVec 32 := 64#32
  let v47 : BitVec 32 := Scalar.addi v46 c64_i32
  let c1_i32_17 : BitVec 32 := 1#32
  let v48 : BitVec 32 := Scalar.subi v47 c1_i32_17
  let c0_i32_19 : BitVec 32 := 0#32
  let v50 : BitVec 1 := Scalar.cmpi .sgt v48 c0_i32_19
  let v51 : BitVec 32 := Scalar.extui v50
  let c0_i32_20 : BitVec 32 := 0#32
  let v52 : BitVec 1 := Scalar.cmpi .slt v48 c0_i32_20
  let v53 : BitVec 32 := Scalar.extui v52
  let v54 : BitVec 32 := Scalar.subi v51 v53
  let c64_i32_18 : BitVec 32 := 64#32
  let c0_i32_21 : BitVec 32 := 0#32
  let v55 : BitVec 1 := Scalar.cmpi .sgt c64_i32_18 c0_i32_21
  let v56 : BitVec 32 := Scalar.extui v55
  let c0_i32_22 : BitVec 32 := 0#32
  let v57 : BitVec 1 := Scalar.cmpi .slt c64_i32_18 c0_i32_22
  let v58 : BitVec 32 := Scalar.extui v57
  let v59 : BitVec 32 := Scalar.subi v56 v58
  let v60 : BitVec 1 := Scalar.cmpi .ne v54 v59
  let v61 : BitVec 32 := Scalar.remsi v48 c64_i32_18
  let c0_i32_23 : BitVec 32 := 0#32
  let v62 : BitVec 1 := Scalar.cmpi .ne v61 c0_i32_23
  let v63 : BitVec 1 := Scalar.andi v60 v62
  let v49 : BitVec 32 := Scalar.divsi v48 c64_i32_18
  let c1_i32_24 : BitVec 32 := 1#32
  let v64 : BitVec 32 := Scalar.subi v49 c1_i32_24
  let v65 : BitVec 32 := Scalar.select v63 v64 v49
  let c0_i32_32 : BitVec 32 := 0#32
  let v86 : BitVec 1 := Scalar.cmpi .sgt v65 c0_i32_32
  let v87 : BitVec 32 := Scalar.extui v86
  let c0_i32_33 : BitVec 32 := 0#32
  let v88 : BitVec 1 := Scalar.cmpi .ne v87 c0_i32_33
  v88

def k0_dev3 (d0 : Dev nD) : Nat :=
  let c0_i32_111 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_110 : BitVec 32 := 4#32
  let v231 : BitVec 32 := Scalar.muli v9 c4_i32_110
  let v232 : BitVec 32 := Scalar.addi c0_i32_111 v231
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_112 : BitVec 32 := 2#32
  let v233 : BitVec 32 := Scalar.muli v5 c2_i32_112
  let v234 : BitVec 32 := Scalar.addi v232 v233
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_113 : BitVec 32 := 1#32
  let v235 : BitVec 32 := Scalar.muli v8 c1_i32_113
  let v236 : BitVec 32 := Scalar.addi v234 v235
  v236.toNat
def k0_off2 (d0 : Dev nD) (v46 : BitVec 32) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c512_i32 : BitVec 32 := 512#32
  let c64_i32 : BitVec 32 := 64#32
  let v47 : BitVec 32 := Scalar.addi v46 c64_i32
  let c1_i32_17 : BitVec 32 := 1#32
  let v48 : BitVec 32 := Scalar.subi v47 c1_i32_17
  let c0_i32_19 : BitVec 32 := 0#32
  let v50 : BitVec 1 := Scalar.cmpi .sgt v48 c0_i32_19
  let v51 : BitVec 32 := Scalar.extui v50
  let c0_i32_20 : BitVec 32 := 0#32
  let v52 : BitVec 1 := Scalar.cmpi .slt v48 c0_i32_20
  let v53 : BitVec 32 := Scalar.extui v52
  let v54 : BitVec 32 := Scalar.subi v51 v53
  let c64_i32_18 : BitVec 32 := 64#32
  let c0_i32_21 : BitVec 32 := 0#32
  let v55 : BitVec 1 := Scalar.cmpi .sgt c64_i32_18 c0_i32_21
  let v56 : BitVec 32 := Scalar.extui v55
  let c0_i32_22 : BitVec 32 := 0#32
  let v57 : BitVec 1 := Scalar.cmpi .slt c64_i32_18 c0_i32_22
  let v58 : BitVec 32 := Scalar.extui v57
  let v59 : BitVec 32 := Scalar.subi v56 v58
  let v60 : BitVec 1 := Scalar.cmpi .ne v54 v59
  let v61 : BitVec 32 := Scalar.remsi v48 c64_i32_18
  let c0_i32_23 : BitVec 32 := 0#32
  let v62 : BitVec 1 := Scalar.cmpi .ne v61 c0_i32_23
  let v63 : BitVec 1 := Scalar.andi v60 v62
  let v49 : BitVec 32 := Scalar.divsi v48 c64_i32_18
  let c1_i32_24 : BitVec 32 := 1#32
  let v64 : BitVec 32 := Scalar.subi v49 c1_i32_24
  let v65 : BitVec 32 := Scalar.select v63 v64 v49
  let c64_i32_26 : BitVec 32 := 64#32
  let v69 : BitVec 32 := Scalar.muli v65 c64_i32_26
  let v70 : BitVec 32 := Scalar.subi c512_i32 v69
  let v71 : BitVec 32 := Scalar.muli v2 v70
  let c64_i32_107 : BitVec 32 := 64#32
  let v230 : BitVec 32 := Scalar.addi v71 c64_i32_107
  let c0_i32_114 : BitVec 32 := 0#32
  ![v230.toNat, 0]
def k0_cond2 (v46 : BitVec 32) : BitVec 1 :=
  let c64_i32 : BitVec 32 := 64#32
  let v47 : BitVec 32 := Scalar.addi v46 c64_i32
  let c1_i32_17 : BitVec 32 := 1#32
  let v48 : BitVec 32 := Scalar.subi v47 c1_i32_17
  let c0_i32_19 : BitVec 32 := 0#32
  let v50 : BitVec 1 := Scalar.cmpi .sgt v48 c0_i32_19
  let v51 : BitVec 32 := Scalar.extui v50
  let c0_i32_20 : BitVec 32 := 0#32
  let v52 : BitVec 1 := Scalar.cmpi .slt v48 c0_i32_20
  let v53 : BitVec 32 := Scalar.extui v52
  let v54 : BitVec 32 := Scalar.subi v51 v53
  let c64_i32_18 : BitVec 32 := 64#32
  let c0_i32_21 : BitVec 32 := 0#32
  let v55 : BitVec 1 := Scalar.cmpi .sgt c64_i32_18 c0_i32_21
  let v56 : BitVec 32 := Scalar.extui v55
  let c0_i32_22 : BitVec 32 := 0#32
  let v57 : BitVec 1 := Scalar.cmpi .slt c64_i32_18 c0_i32_22
  let v58 : BitVec 32 := Scalar.extui v57
  let v59 : BitVec 32 := Scalar.subi v56 v58
  let v60 : BitVec 1 := Scalar.cmpi .ne v54 v59
  let v61 : BitVec 32 := Scalar.remsi v48 c64_i32_18
  let c0_i32_23 : BitVec 32 := 0#32
  let v62 : BitVec 1 := Scalar.cmpi .ne v61 c0_i32_23
  let v63 : BitVec 1 := Scalar.andi v60 v62
  let v49 : BitVec 32 := Scalar.divsi v48 c64_i32_18
  let c1_i32_24 : BitVec 32 := 1#32
  let v64 : BitVec 32 := Scalar.subi v49 c1_i32_24
  let v65 : BitVec 32 := Scalar.select v63 v64 v49
  let c1_i32_34 : BitVec 32 := 1#32
  let v89 : BitVec 1 := Scalar.cmpi .sgt v65 c1_i32_34
  let v90 : BitVec 32 := Scalar.extui v89
  let c0_i32_35 : BitVec 32 := 0#32
  let v91 : BitVec 1 := Scalar.cmpi .ne v90 c0_i32_35
  v91

def k0_dev4 (d0 : Dev nD) : Nat :=
  let c0_i32_111 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_110 : BitVec 32 := 4#32
  let v231 : BitVec 32 := Scalar.muli v9 c4_i32_110
  let v232 : BitVec 32 := Scalar.addi c0_i32_111 v231
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_112 : BitVec 32 := 2#32
  let v233 : BitVec 32 := Scalar.muli v5 c2_i32_112
  let v234 : BitVec 32 := Scalar.addi v232 v233
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_113 : BitVec 32 := 1#32
  let v235 : BitVec 32 := Scalar.muli v8 c1_i32_113
  let v236 : BitVec 32 := Scalar.addi v234 v235
  v236.toNat
def k0_off3 (d0 : Dev nD) (v46 : BitVec 32) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c512_i32 : BitVec 32 := 512#32
  let c64_i32 : BitVec 32 := 64#32
  let v47 : BitVec 32 := Scalar.addi v46 c64_i32
  let c1_i32_17 : BitVec 32 := 1#32
  let v48 : BitVec 32 := Scalar.subi v47 c1_i32_17
  let c0_i32_19 : BitVec 32 := 0#32
  let v50 : BitVec 1 := Scalar.cmpi .sgt v48 c0_i32_19
  let v51 : BitVec 32 := Scalar.extui v50
  let c0_i32_20 : BitVec 32 := 0#32
  let v52 : BitVec 1 := Scalar.cmpi .slt v48 c0_i32_20
  let v53 : BitVec 32 := Scalar.extui v52
  let v54 : BitVec 32 := Scalar.subi v51 v53
  let c64_i32_18 : BitVec 32 := 64#32
  let c0_i32_21 : BitVec 32 := 0#32
  let v55 : BitVec 1 := Scalar.cmpi .sgt c64_i32_18 c0_i32_21
  let v56 : BitVec 32 := Scalar.extui v55
  let c0_i32_22 : BitVec 32 := 0#32
  let v57 : BitVec 1 := Scalar.cmpi .slt c64_i32_18 c0_i32_22
  let v58 : BitVec 32 := Scalar.extui v57
  let v59 : BitVec 32 := Scalar.subi v56 v58
  let v60 : BitVec 1 := Scalar.cmpi .ne v54 v59
  let v61 : BitVec 32 := Scalar.remsi v48 c64_i32_18
  let c0_i32_23 : BitVec 32 := 0#32
  let v62 : BitVec 1 := Scalar.cmpi .ne v61 c0_i32_23
  let v63 : BitVec 1 := Scalar.andi v60 v62
  let v49 : BitVec 32 := Scalar.divsi v48 c64_i32_18
  let c1_i32_24 : BitVec 32 := 1#32
  let v64 : BitVec 32 := Scalar.subi v49 c1_i32_24
  let v65 : BitVec 32 := Scalar.select v63 v64 v49
  let c64_i32_26 : BitVec 32 := 64#32
  let v69 : BitVec 32 := Scalar.muli v65 c64_i32_26
  let v70 : BitVec 32 := Scalar.subi c512_i32 v69
  let v71 : BitVec 32 := Scalar.muli v2 v70
  let c128_i32 : BitVec 32 := 128#32
  let v230 : BitVec 32 := Scalar.addi v71 c128_i32
  let c0_i32_113 : BitVec 32 := 0#32
  ![v230.toNat, 0]
def k0_cond3 (v46 : BitVec 32) : BitVec 1 :=
  let c64_i32 : BitVec 32 := 64#32
  let v47 : BitVec 32 := Scalar.addi v46 c64_i32
  let c1_i32_17 : BitVec 32 := 1#32
  let v48 : BitVec 32 := Scalar.subi v47 c1_i32_17
  let c0_i32_19 : BitVec 32 := 0#32
  let v50 : BitVec 1 := Scalar.cmpi .sgt v48 c0_i32_19
  let v51 : BitVec 32 := Scalar.extui v50
  let c0_i32_20 : BitVec 32 := 0#32
  let v52 : BitVec 1 := Scalar.cmpi .slt v48 c0_i32_20
  let v53 : BitVec 32 := Scalar.extui v52
  let v54 : BitVec 32 := Scalar.subi v51 v53
  let c64_i32_18 : BitVec 32 := 64#32
  let c0_i32_21 : BitVec 32 := 0#32
  let v55 : BitVec 1 := Scalar.cmpi .sgt c64_i32_18 c0_i32_21
  let v56 : BitVec 32 := Scalar.extui v55
  let c0_i32_22 : BitVec 32 := 0#32
  let v57 : BitVec 1 := Scalar.cmpi .slt c64_i32_18 c0_i32_22
  let v58 : BitVec 32 := Scalar.extui v57
  let v59 : BitVec 32 := Scalar.subi v56 v58
  let v60 : BitVec 1 := Scalar.cmpi .ne v54 v59
  let v61 : BitVec 32 := Scalar.remsi v48 c64_i32_18
  let c0_i32_23 : BitVec 32 := 0#32
  let v62 : BitVec 1 := Scalar.cmpi .ne v61 c0_i32_23
  let v63 : BitVec 1 := Scalar.andi v60 v62
  let v49 : BitVec 32 := Scalar.divsi v48 c64_i32_18
  let c1_i32_24 : BitVec 32 := 1#32
  let v64 : BitVec 32 := Scalar.subi v49 c1_i32_24
  let v65 : BitVec 32 := Scalar.select v63 v64 v49
  let c2_i32_36 : BitVec 32 := 2#32
  let v92 : BitVec 1 := Scalar.cmpi .sgt v65 c2_i32_36
  let v93 : BitVec 32 := Scalar.extui v92
  let c0_i32_37 : BitVec 32 := 0#32
  let v94 : BitVec 1 := Scalar.cmpi .ne v93 c0_i32_37
  v94

def k0_dev5 (d0 : Dev nD) : Nat :=
  let c0_i32_110 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_109 : BitVec 32 := 4#32
  let v231 : BitVec 32 := Scalar.muli v9 c4_i32_109
  let v232 : BitVec 32 := Scalar.addi c0_i32_110 v231
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_111 : BitVec 32 := 2#32
  let v233 : BitVec 32 := Scalar.muli v5 c2_i32_111
  let v234 : BitVec 32 := Scalar.addi v232 v233
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_112 : BitVec 32 := 1#32
  let v235 : BitVec 32 := Scalar.muli v8 c1_i32_112
  let v236 : BitVec 32 := Scalar.addi v234 v235
  v236.toNat
def k0_off4 (d0 : Dev nD) (v46 : BitVec 32) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c512_i32 : BitVec 32 := 512#32
  let c64_i32 : BitVec 32 := 64#32
  let v47 : BitVec 32 := Scalar.addi v46 c64_i32
  let c1_i32_17 : BitVec 32 := 1#32
  let v48 : BitVec 32 := Scalar.subi v47 c1_i32_17
  let c0_i32_19 : BitVec 32 := 0#32
  let v50 : BitVec 1 := Scalar.cmpi .sgt v48 c0_i32_19
  let v51 : BitVec 32 := Scalar.extui v50
  let c0_i32_20 : BitVec 32 := 0#32
  let v52 : BitVec 1 := Scalar.cmpi .slt v48 c0_i32_20
  let v53 : BitVec 32 := Scalar.extui v52
  let v54 : BitVec 32 := Scalar.subi v51 v53
  let c64_i32_18 : BitVec 32 := 64#32
  let c0_i32_21 : BitVec 32 := 0#32
  let v55 : BitVec 1 := Scalar.cmpi .sgt c64_i32_18 c0_i32_21
  let v56 : BitVec 32 := Scalar.extui v55
  let c0_i32_22 : BitVec 32 := 0#32
  let v57 : BitVec 1 := Scalar.cmpi .slt c64_i32_18 c0_i32_22
  let v58 : BitVec 32 := Scalar.extui v57
  let v59 : BitVec 32 := Scalar.subi v56 v58
  let v60 : BitVec 1 := Scalar.cmpi .ne v54 v59
  let v61 : BitVec 32 := Scalar.remsi v48 c64_i32_18
  let c0_i32_23 : BitVec 32 := 0#32
  let v62 : BitVec 1 := Scalar.cmpi .ne v61 c0_i32_23
  let v63 : BitVec 1 := Scalar.andi v60 v62
  let v49 : BitVec 32 := Scalar.divsi v48 c64_i32_18
  let c1_i32_24 : BitVec 32 := 1#32
  let v64 : BitVec 32 := Scalar.subi v49 c1_i32_24
  let v65 : BitVec 32 := Scalar.select v63 v64 v49
  let c64_i32_26 : BitVec 32 := 64#32
  let v69 : BitVec 32 := Scalar.muli v65 c64_i32_26
  let v70 : BitVec 32 := Scalar.subi c512_i32 v69
  let v71 : BitVec 32 := Scalar.muli v2 v70
  let c192_i32 : BitVec 32 := 192#32
  let v230 : BitVec 32 := Scalar.addi v71 c192_i32
  let c0_i32_113 : BitVec 32 := 0#32
  ![v230.toNat, 0]
def k0_cond4 (v46 : BitVec 32) : BitVec 1 :=
  let c64_i32 : BitVec 32 := 64#32
  let v47 : BitVec 32 := Scalar.addi v46 c64_i32
  let c1_i32_17 : BitVec 32 := 1#32
  let v48 : BitVec 32 := Scalar.subi v47 c1_i32_17
  let c0_i32_19 : BitVec 32 := 0#32
  let v50 : BitVec 1 := Scalar.cmpi .sgt v48 c0_i32_19
  let v51 : BitVec 32 := Scalar.extui v50
  let c0_i32_20 : BitVec 32 := 0#32
  let v52 : BitVec 1 := Scalar.cmpi .slt v48 c0_i32_20
  let v53 : BitVec 32 := Scalar.extui v52
  let v54 : BitVec 32 := Scalar.subi v51 v53
  let c64_i32_18 : BitVec 32 := 64#32
  let c0_i32_21 : BitVec 32 := 0#32
  let v55 : BitVec 1 := Scalar.cmpi .sgt c64_i32_18 c0_i32_21
  let v56 : BitVec 32 := Scalar.extui v55
  let c0_i32_22 : BitVec 32 := 0#32
  let v57 : BitVec 1 := Scalar.cmpi .slt c64_i32_18 c0_i32_22
  let v58 : BitVec 32 := Scalar.extui v57
  let v59 : BitVec 32 := Scalar.subi v56 v58
  let v60 : BitVec 1 := Scalar.cmpi .ne v54 v59
  let v61 : BitVec 32 := Scalar.remsi v48 c64_i32_18
  let c0_i32_23 : BitVec 32 := 0#32
  let v62 : BitVec 1 := Scalar.cmpi .ne v61 c0_i32_23
  let v63 : BitVec 1 := Scalar.andi v60 v62
  let v49 : BitVec 32 := Scalar.divsi v48 c64_i32_18
  let c1_i32_24 : BitVec 32 := 1#32
  let v64 : BitVec 32 := Scalar.subi v49 c1_i32_24
  let v65 : BitVec 32 := Scalar.select v63 v64 v49
  let c3_i32 : BitVec 32 := 3#32
  let v95 : BitVec 1 := Scalar.cmpi .sgt v65 c3_i32
  let v96 : BitVec 32 := Scalar.extui v95
  let c0_i32_38 : BitVec 32 := 0#32
  let v97 : BitVec 1 := Scalar.cmpi .ne v96 c0_i32_38
  v97

def k0_dev6 (d0 : Dev nD) : Nat :=
  let c0_i32_110 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_109 : BitVec 32 := 4#32
  let v231 : BitVec 32 := Scalar.muli v9 c4_i32_109
  let v232 : BitVec 32 := Scalar.addi c0_i32_110 v231
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_111 : BitVec 32 := 2#32
  let v233 : BitVec 32 := Scalar.muli v5 c2_i32_111
  let v234 : BitVec 32 := Scalar.addi v232 v233
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_112 : BitVec 32 := 1#32
  let v235 : BitVec 32 := Scalar.muli v8 c1_i32_112
  let v236 : BitVec 32 := Scalar.addi v234 v235
  v236.toNat
def k0_off5 (d0 : Dev nD) (v46 : BitVec 32) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c512_i32 : BitVec 32 := 512#32
  let c64_i32 : BitVec 32 := 64#32
  let v47 : BitVec 32 := Scalar.addi v46 c64_i32
  let c1_i32_17 : BitVec 32 := 1#32
  let v48 : BitVec 32 := Scalar.subi v47 c1_i32_17
  let c0_i32_19 : BitVec 32 := 0#32
  let v50 : BitVec 1 := Scalar.cmpi .sgt v48 c0_i32_19
  let v51 : BitVec 32 := Scalar.extui v50
  let c0_i32_20 : BitVec 32 := 0#32
  let v52 : BitVec 1 := Scalar.cmpi .slt v48 c0_i32_20
  let v53 : BitVec 32 := Scalar.extui v52
  let v54 : BitVec 32 := Scalar.subi v51 v53
  let c64_i32_18 : BitVec 32 := 64#32
  let c0_i32_21 : BitVec 32 := 0#32
  let v55 : BitVec 1 := Scalar.cmpi .sgt c64_i32_18 c0_i32_21
  let v56 : BitVec 32 := Scalar.extui v55
  let c0_i32_22 : BitVec 32 := 0#32
  let v57 : BitVec 1 := Scalar.cmpi .slt c64_i32_18 c0_i32_22
  let v58 : BitVec 32 := Scalar.extui v57
  let v59 : BitVec 32 := Scalar.subi v56 v58
  let v60 : BitVec 1 := Scalar.cmpi .ne v54 v59
  let v61 : BitVec 32 := Scalar.remsi v48 c64_i32_18
  let c0_i32_23 : BitVec 32 := 0#32
  let v62 : BitVec 1 := Scalar.cmpi .ne v61 c0_i32_23
  let v63 : BitVec 1 := Scalar.andi v60 v62
  let v49 : BitVec 32 := Scalar.divsi v48 c64_i32_18
  let c1_i32_24 : BitVec 32 := 1#32
  let v64 : BitVec 32 := Scalar.subi v49 c1_i32_24
  let v65 : BitVec 32 := Scalar.select v63 v64 v49
  let c64_i32_26 : BitVec 32 := 64#32
  let v69 : BitVec 32 := Scalar.muli v65 c64_i32_26
  let v70 : BitVec 32 := Scalar.subi c512_i32 v69
  let v71 : BitVec 32 := Scalar.muli v2 v70
  let c256_i32 : BitVec 32 := 256#32
  let v230 : BitVec 32 := Scalar.addi v71 c256_i32
  let c0_i32_113 : BitVec 32 := 0#32
  ![v230.toNat, 0]
def k0_cond5 (v46 : BitVec 32) : BitVec 1 :=
  let c64_i32 : BitVec 32 := 64#32
  let v47 : BitVec 32 := Scalar.addi v46 c64_i32
  let c1_i32_17 : BitVec 32 := 1#32
  let v48 : BitVec 32 := Scalar.subi v47 c1_i32_17
  let c0_i32_19 : BitVec 32 := 0#32
  let v50 : BitVec 1 := Scalar.cmpi .sgt v48 c0_i32_19
  let v51 : BitVec 32 := Scalar.extui v50
  let c0_i32_20 : BitVec 32 := 0#32
  let v52 : BitVec 1 := Scalar.cmpi .slt v48 c0_i32_20
  let v53 : BitVec 32 := Scalar.extui v52
  let v54 : BitVec 32 := Scalar.subi v51 v53
  let c64_i32_18 : BitVec 32 := 64#32
  let c0_i32_21 : BitVec 32 := 0#32
  let v55 : BitVec 1 := Scalar.cmpi .sgt c64_i32_18 c0_i32_21
  let v56 : BitVec 32 := Scalar.extui v55
  let c0_i32_22 : BitVec 32 := 0#32
  let v57 : BitVec 1 := Scalar.cmpi .slt c64_i32_18 c0_i32_22
  let v58 : BitVec 32 := Scalar.extui v57
  let v59 : BitVec 32 := Scalar.subi v56 v58
  let v60 : BitVec 1 := Scalar.cmpi .ne v54 v59
  let v61 : BitVec 32 := Scalar.remsi v48 c64_i32_18
  let c0_i32_23 : BitVec 32 := 0#32
  let v62 : BitVec 1 := Scalar.cmpi .ne v61 c0_i32_23
  let v63 : BitVec 1 := Scalar.andi v60 v62
  let v49 : BitVec 32 := Scalar.divsi v48 c64_i32_18
  let c1_i32_24 : BitVec 32 := 1#32
  let v64 : BitVec 32 := Scalar.subi v49 c1_i32_24
  let v65 : BitVec 32 := Scalar.select v63 v64 v49
  let c4_i32_39 : BitVec 32 := 4#32
  let v98 : BitVec 1 := Scalar.cmpi .sgt v65 c4_i32_39
  let v99 : BitVec 32 := Scalar.extui v98
  let c0_i32_40 : BitVec 32 := 0#32
  let v100 : BitVec 1 := Scalar.cmpi .ne v99 c0_i32_40
  v100

def k0_dev7 (d0 : Dev nD) : Nat :=
  let c0_i32_110 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_109 : BitVec 32 := 4#32
  let v231 : BitVec 32 := Scalar.muli v9 c4_i32_109
  let v232 : BitVec 32 := Scalar.addi c0_i32_110 v231
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_111 : BitVec 32 := 2#32
  let v233 : BitVec 32 := Scalar.muli v5 c2_i32_111
  let v234 : BitVec 32 := Scalar.addi v232 v233
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_112 : BitVec 32 := 1#32
  let v235 : BitVec 32 := Scalar.muli v8 c1_i32_112
  let v236 : BitVec 32 := Scalar.addi v234 v235
  v236.toNat
def k0_off6 (d0 : Dev nD) (v46 : BitVec 32) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c512_i32 : BitVec 32 := 512#32
  let c64_i32 : BitVec 32 := 64#32
  let v47 : BitVec 32 := Scalar.addi v46 c64_i32
  let c1_i32_17 : BitVec 32 := 1#32
  let v48 : BitVec 32 := Scalar.subi v47 c1_i32_17
  let c0_i32_19 : BitVec 32 := 0#32
  let v50 : BitVec 1 := Scalar.cmpi .sgt v48 c0_i32_19
  let v51 : BitVec 32 := Scalar.extui v50
  let c0_i32_20 : BitVec 32 := 0#32
  let v52 : BitVec 1 := Scalar.cmpi .slt v48 c0_i32_20
  let v53 : BitVec 32 := Scalar.extui v52
  let v54 : BitVec 32 := Scalar.subi v51 v53
  let c64_i32_18 : BitVec 32 := 64#32
  let c0_i32_21 : BitVec 32 := 0#32
  let v55 : BitVec 1 := Scalar.cmpi .sgt c64_i32_18 c0_i32_21
  let v56 : BitVec 32 := Scalar.extui v55
  let c0_i32_22 : BitVec 32 := 0#32
  let v57 : BitVec 1 := Scalar.cmpi .slt c64_i32_18 c0_i32_22
  let v58 : BitVec 32 := Scalar.extui v57
  let v59 : BitVec 32 := Scalar.subi v56 v58
  let v60 : BitVec 1 := Scalar.cmpi .ne v54 v59
  let v61 : BitVec 32 := Scalar.remsi v48 c64_i32_18
  let c0_i32_23 : BitVec 32 := 0#32
  let v62 : BitVec 1 := Scalar.cmpi .ne v61 c0_i32_23
  let v63 : BitVec 1 := Scalar.andi v60 v62
  let v49 : BitVec 32 := Scalar.divsi v48 c64_i32_18
  let c1_i32_24 : BitVec 32 := 1#32
  let v64 : BitVec 32 := Scalar.subi v49 c1_i32_24
  let v65 : BitVec 32 := Scalar.select v63 v64 v49
  let c64_i32_26 : BitVec 32 := 64#32
  let v69 : BitVec 32 := Scalar.muli v65 c64_i32_26
  let v70 : BitVec 32 := Scalar.subi c512_i32 v69
  let v71 : BitVec 32 := Scalar.muli v2 v70
  let c320_i32 : BitVec 32 := 320#32
  let v230 : BitVec 32 := Scalar.addi v71 c320_i32
  let c0_i32_113 : BitVec 32 := 0#32
  ![v230.toNat, 0]
def k0_cond6 (v46 : BitVec 32) : BitVec 1 :=
  let c64_i32 : BitVec 32 := 64#32
  let v47 : BitVec 32 := Scalar.addi v46 c64_i32
  let c1_i32_17 : BitVec 32 := 1#32
  let v48 : BitVec 32 := Scalar.subi v47 c1_i32_17
  let c0_i32_19 : BitVec 32 := 0#32
  let v50 : BitVec 1 := Scalar.cmpi .sgt v48 c0_i32_19
  let v51 : BitVec 32 := Scalar.extui v50
  let c0_i32_20 : BitVec 32 := 0#32
  let v52 : BitVec 1 := Scalar.cmpi .slt v48 c0_i32_20
  let v53 : BitVec 32 := Scalar.extui v52
  let v54 : BitVec 32 := Scalar.subi v51 v53
  let c64_i32_18 : BitVec 32 := 64#32
  let c0_i32_21 : BitVec 32 := 0#32
  let v55 : BitVec 1 := Scalar.cmpi .sgt c64_i32_18 c0_i32_21
  let v56 : BitVec 32 := Scalar.extui v55
  let c0_i32_22 : BitVec 32 := 0#32
  let v57 : BitVec 1 := Scalar.cmpi .slt c64_i32_18 c0_i32_22
  let v58 : BitVec 32 := Scalar.extui v57
  let v59 : BitVec 32 := Scalar.subi v56 v58
  let v60 : BitVec 1 := Scalar.cmpi .ne v54 v59
  let v61 : BitVec 32 := Scalar.remsi v48 c64_i32_18
  let c0_i32_23 : BitVec 32 := 0#32
  let v62 : BitVec 1 := Scalar.cmpi .ne v61 c0_i32_23
  let v63 : BitVec 1 := Scalar.andi v60 v62
  let v49 : BitVec 32 := Scalar.divsi v48 c64_i32_18
  let c1_i32_24 : BitVec 32 := 1#32
  let v64 : BitVec 32 := Scalar.subi v49 c1_i32_24
  let v65 : BitVec 32 := Scalar.select v63 v64 v49
  let c5_i32 : BitVec 32 := 5#32
  let v101 : BitVec 1 := Scalar.cmpi .sgt v65 c5_i32
  let v102 : BitVec 32 := Scalar.extui v101
  let c0_i32_41 : BitVec 32 := 0#32
  let v103 : BitVec 1 := Scalar.cmpi .ne v102 c0_i32_41
  v103

def k0_dev8 (d0 : Dev nD) : Nat :=
  let c0_i32_110 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_109 : BitVec 32 := 4#32
  let v231 : BitVec 32 := Scalar.muli v9 c4_i32_109
  let v232 : BitVec 32 := Scalar.addi c0_i32_110 v231
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_111 : BitVec 32 := 2#32
  let v233 : BitVec 32 := Scalar.muli v5 c2_i32_111
  let v234 : BitVec 32 := Scalar.addi v232 v233
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_112 : BitVec 32 := 1#32
  let v235 : BitVec 32 := Scalar.muli v8 c1_i32_112
  let v236 : BitVec 32 := Scalar.addi v234 v235
  v236.toNat
def k0_off7 (d0 : Dev nD) (v46 : BitVec 32) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c512_i32 : BitVec 32 := 512#32
  let c64_i32 : BitVec 32 := 64#32
  let v47 : BitVec 32 := Scalar.addi v46 c64_i32
  let c1_i32_17 : BitVec 32 := 1#32
  let v48 : BitVec 32 := Scalar.subi v47 c1_i32_17
  let c0_i32_19 : BitVec 32 := 0#32
  let v50 : BitVec 1 := Scalar.cmpi .sgt v48 c0_i32_19
  let v51 : BitVec 32 := Scalar.extui v50
  let c0_i32_20 : BitVec 32 := 0#32
  let v52 : BitVec 1 := Scalar.cmpi .slt v48 c0_i32_20
  let v53 : BitVec 32 := Scalar.extui v52
  let v54 : BitVec 32 := Scalar.subi v51 v53
  let c64_i32_18 : BitVec 32 := 64#32
  let c0_i32_21 : BitVec 32 := 0#32
  let v55 : BitVec 1 := Scalar.cmpi .sgt c64_i32_18 c0_i32_21
  let v56 : BitVec 32 := Scalar.extui v55
  let c0_i32_22 : BitVec 32 := 0#32
  let v57 : BitVec 1 := Scalar.cmpi .slt c64_i32_18 c0_i32_22
  let v58 : BitVec 32 := Scalar.extui v57
  let v59 : BitVec 32 := Scalar.subi v56 v58
  let v60 : BitVec 1 := Scalar.cmpi .ne v54 v59
  let v61 : BitVec 32 := Scalar.remsi v48 c64_i32_18
  let c0_i32_23 : BitVec 32 := 0#32
  let v62 : BitVec 1 := Scalar.cmpi .ne v61 c0_i32_23
  let v63 : BitVec 1 := Scalar.andi v60 v62
  let v49 : BitVec 32 := Scalar.divsi v48 c64_i32_18
  let c1_i32_24 : BitVec 32 := 1#32
  let v64 : BitVec 32 := Scalar.subi v49 c1_i32_24
  let v65 : BitVec 32 := Scalar.select v63 v64 v49
  let c64_i32_26 : BitVec 32 := 64#32
  let v69 : BitVec 32 := Scalar.muli v65 c64_i32_26
  let v70 : BitVec 32 := Scalar.subi c512_i32 v69
  let v71 : BitVec 32 := Scalar.muli v2 v70
  let c384_i32 : BitVec 32 := 384#32
  let v230 : BitVec 32 := Scalar.addi v71 c384_i32
  let c0_i32_113 : BitVec 32 := 0#32
  ![v230.toNat, 0]
def k0_cond7 (v46 : BitVec 32) : BitVec 1 :=
  let c64_i32 : BitVec 32 := 64#32
  let v47 : BitVec 32 := Scalar.addi v46 c64_i32
  let c1_i32_17 : BitVec 32 := 1#32
  let v48 : BitVec 32 := Scalar.subi v47 c1_i32_17
  let c0_i32_19 : BitVec 32 := 0#32
  let v50 : BitVec 1 := Scalar.cmpi .sgt v48 c0_i32_19
  let v51 : BitVec 32 := Scalar.extui v50
  let c0_i32_20 : BitVec 32 := 0#32
  let v52 : BitVec 1 := Scalar.cmpi .slt v48 c0_i32_20
  let v53 : BitVec 32 := Scalar.extui v52
  let v54 : BitVec 32 := Scalar.subi v51 v53
  let c64_i32_18 : BitVec 32 := 64#32
  let c0_i32_21 : BitVec 32 := 0#32
  let v55 : BitVec 1 := Scalar.cmpi .sgt c64_i32_18 c0_i32_21
  let v56 : BitVec 32 := Scalar.extui v55
  let c0_i32_22 : BitVec 32 := 0#32
  let v57 : BitVec 1 := Scalar.cmpi .slt c64_i32_18 c0_i32_22
  let v58 : BitVec 32 := Scalar.extui v57
  let v59 : BitVec 32 := Scalar.subi v56 v58
  let v60 : BitVec 1 := Scalar.cmpi .ne v54 v59
  let v61 : BitVec 32 := Scalar.remsi v48 c64_i32_18
  let c0_i32_23 : BitVec 32 := 0#32
  let v62 : BitVec 1 := Scalar.cmpi .ne v61 c0_i32_23
  let v63 : BitVec 1 := Scalar.andi v60 v62
  let v49 : BitVec 32 := Scalar.divsi v48 c64_i32_18
  let c1_i32_24 : BitVec 32 := 1#32
  let v64 : BitVec 32 := Scalar.subi v49 c1_i32_24
  let v65 : BitVec 32 := Scalar.select v63 v64 v49
  let c6_i32 : BitVec 32 := 6#32
  let v104 : BitVec 1 := Scalar.cmpi .sgt v65 c6_i32
  let v105 : BitVec 32 := Scalar.extui v104
  let c0_i32_42 : BitVec 32 := 0#32
  let v106 : BitVec 1 := Scalar.cmpi .ne v105 c0_i32_42
  v106

def k0_dev9 (d0 : Dev nD) : Nat :=
  let c0_i32_110 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_109 : BitVec 32 := 4#32
  let v231 : BitVec 32 := Scalar.muli v9 c4_i32_109
  let v232 : BitVec 32 := Scalar.addi c0_i32_110 v231
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_111 : BitVec 32 := 2#32
  let v233 : BitVec 32 := Scalar.muli v5 c2_i32_111
  let v234 : BitVec 32 := Scalar.addi v232 v233
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_112 : BitVec 32 := 1#32
  let v235 : BitVec 32 := Scalar.muli v8 c1_i32_112
  let v236 : BitVec 32 := Scalar.addi v234 v235
  v236.toNat
def k0_off8 (d0 : Dev nD) (v46 : BitVec 32) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c512_i32 : BitVec 32 := 512#32
  let c64_i32 : BitVec 32 := 64#32
  let v47 : BitVec 32 := Scalar.addi v46 c64_i32
  let c1_i32_17 : BitVec 32 := 1#32
  let v48 : BitVec 32 := Scalar.subi v47 c1_i32_17
  let c0_i32_19 : BitVec 32 := 0#32
  let v50 : BitVec 1 := Scalar.cmpi .sgt v48 c0_i32_19
  let v51 : BitVec 32 := Scalar.extui v50
  let c0_i32_20 : BitVec 32 := 0#32
  let v52 : BitVec 1 := Scalar.cmpi .slt v48 c0_i32_20
  let v53 : BitVec 32 := Scalar.extui v52
  let v54 : BitVec 32 := Scalar.subi v51 v53
  let c64_i32_18 : BitVec 32 := 64#32
  let c0_i32_21 : BitVec 32 := 0#32
  let v55 : BitVec 1 := Scalar.cmpi .sgt c64_i32_18 c0_i32_21
  let v56 : BitVec 32 := Scalar.extui v55
  let c0_i32_22 : BitVec 32 := 0#32
  let v57 : BitVec 1 := Scalar.cmpi .slt c64_i32_18 c0_i32_22
  let v58 : BitVec 32 := Scalar.extui v57
  let v59 : BitVec 32 := Scalar.subi v56 v58
  let v60 : BitVec 1 := Scalar.cmpi .ne v54 v59
  let v61 : BitVec 32 := Scalar.remsi v48 c64_i32_18
  let c0_i32_23 : BitVec 32 := 0#32
  let v62 : BitVec 1 := Scalar.cmpi .ne v61 c0_i32_23
  let v63 : BitVec 1 := Scalar.andi v60 v62
  let v49 : BitVec 32 := Scalar.divsi v48 c64_i32_18
  let c1_i32_24 : BitVec 32 := 1#32
  let v64 : BitVec 32 := Scalar.subi v49 c1_i32_24
  let v65 : BitVec 32 := Scalar.select v63 v64 v49
  let c64_i32_26 : BitVec 32 := 64#32
  let v69 : BitVec 32 := Scalar.muli v65 c64_i32_26
  let v70 : BitVec 32 := Scalar.subi c512_i32 v69
  let v71 : BitVec 32 := Scalar.muli v2 v70
  let c448_i32 : BitVec 32 := 448#32
  let v230 : BitVec 32 := Scalar.addi v71 c448_i32
  let c0_i32_113 : BitVec 32 := 0#32
  ![v230.toNat, 0]
def k0_cond8 (v46 : BitVec 32) : BitVec 1 :=
  let c64_i32 : BitVec 32 := 64#32
  let v47 : BitVec 32 := Scalar.addi v46 c64_i32
  let c1_i32_17 : BitVec 32 := 1#32
  let v48 : BitVec 32 := Scalar.subi v47 c1_i32_17
  let c0_i32_19 : BitVec 32 := 0#32
  let v50 : BitVec 1 := Scalar.cmpi .sgt v48 c0_i32_19
  let v51 : BitVec 32 := Scalar.extui v50
  let c0_i32_20 : BitVec 32 := 0#32
  let v52 : BitVec 1 := Scalar.cmpi .slt v48 c0_i32_20
  let v53 : BitVec 32 := Scalar.extui v52
  let v54 : BitVec 32 := Scalar.subi v51 v53
  let c64_i32_18 : BitVec 32 := 64#32
  let c0_i32_21 : BitVec 32 := 0#32
  let v55 : BitVec 1 := Scalar.cmpi .sgt c64_i32_18 c0_i32_21
  let v56 : BitVec 32 := Scalar.extui v55
  let c0_i32_22 : BitVec 32 := 0#32
  let v57 : BitVec 1 := Scalar.cmpi .slt c64_i32_18 c0_i32_22
  let v58 : BitVec 32 := Scalar.extui v57
  let v59 : BitVec 32 := Scalar.subi v56 v58
  let v60 : BitVec 1 := Scalar.cmpi .ne v54 v59
  let v61 : BitVec 32 := Scalar.remsi v48 c64_i32_18
  let c0_i32_23 : BitVec 32 := 0#32
  let v62 : BitVec 1 := Scalar.cmpi .ne v61 c0_i32_23
  let v63 : BitVec 1 := Scalar.andi v60 v62
  let v49 : BitVec 32 := Scalar.divsi v48 c64_i32_18
  let c1_i32_24 : BitVec 32 := 1#32
  let v64 : BitVec 32 := Scalar.subi v49 c1_i32_24
  let v65 : BitVec 32 := Scalar.select v63 v64 v49
  let c7_i32 : BitVec 32 := 7#32
  let v107 : BitVec 1 := Scalar.cmpi .sgt v65 c7_i32
  let v108 : BitVec 32 := Scalar.extui v107
  let c0_i32_43 : BitVec 32 := 0#32
  let v109 : BitVec 1 := Scalar.cmpi .ne v108 c0_i32_43
  v109

def k0_chk1 (d0 : Dev nD) (v46 : BitVec 32) : Prop :=
  (∀ (k0_h1 : k0_cond1 v46 = 1#1), ∀ a, (k0_off1 d0 v46) a + S64x256.size a ≤ S512x256.size a) ∧
  (∀ (k0_h2 : k0_cond2 v46 = 1#1), ∀ a, (k0_off2 d0 v46) a + S64x256.size a ≤ S512x256.size a) ∧
  (∀ (k0_h3 : k0_cond3 v46 = 1#1), ∀ a, (k0_off3 d0 v46) a + S64x256.size a ≤ S512x256.size a) ∧
  (∀ (k0_h4 : k0_cond4 v46 = 1#1), ∀ a, (k0_off4 d0 v46) a + S64x256.size a ≤ S512x256.size a) ∧
  (∀ (k0_h5 : k0_cond5 v46 = 1#1), ∀ a, (k0_off5 d0 v46) a + S64x256.size a ≤ S512x256.size a) ∧
  (∀ (k0_h6 : k0_cond6 v46 = 1#1), ∀ a, (k0_off6 d0 v46) a + S64x256.size a ≤ S512x256.size a) ∧
  (∀ (k0_h7 : k0_cond7 v46 = 1#1), ∀ a, (k0_off7 d0 v46) a + S64x256.size a ≤ S512x256.size a) ∧
  (∀ (k0_h8 : k0_cond8 v46 = 1#1), ∀ a, (k0_off8 d0 v46) a + S64x256.size a ≤ S512x256.size a)
theorem k0_off1_inb : ∀ (d0 : Dev nD) (v46 : BitVec 32) (k0_hw1 : k0_chk1 d0 v46), ∀ (k0_h1 : k0_cond1 v46 = 1#1), ∀ a, (k0_off1 d0 v46) a + S64x256.size a ≤ S512x256.size a := fun d0 v46 k0_hw1 k0_h1 => k0_hw1.1 k0_h1
theorem k0_off2_inb : ∀ (d0 : Dev nD) (v46 : BitVec 32) (k0_hw1 : k0_chk1 d0 v46), ∀ (k0_h2 : k0_cond2 v46 = 1#1), ∀ a, (k0_off2 d0 v46) a + S64x256.size a ≤ S512x256.size a := fun d0 v46 k0_hw1 k0_h2 => k0_hw1.2.1 k0_h2
theorem k0_off3_inb : ∀ (d0 : Dev nD) (v46 : BitVec 32) (k0_hw1 : k0_chk1 d0 v46), ∀ (k0_h3 : k0_cond3 v46 = 1#1), ∀ a, (k0_off3 d0 v46) a + S64x256.size a ≤ S512x256.size a := fun d0 v46 k0_hw1 k0_h3 => k0_hw1.2.2.1 k0_h3
theorem k0_off4_inb : ∀ (d0 : Dev nD) (v46 : BitVec 32) (k0_hw1 : k0_chk1 d0 v46), ∀ (k0_h4 : k0_cond4 v46 = 1#1), ∀ a, (k0_off4 d0 v46) a + S64x256.size a ≤ S512x256.size a := fun d0 v46 k0_hw1 k0_h4 => k0_hw1.2.2.2.1 k0_h4
theorem k0_off5_inb : ∀ (d0 : Dev nD) (v46 : BitVec 32) (k0_hw1 : k0_chk1 d0 v46), ∀ (k0_h5 : k0_cond5 v46 = 1#1), ∀ a, (k0_off5 d0 v46) a + S64x256.size a ≤ S512x256.size a := fun d0 v46 k0_hw1 k0_h5 => k0_hw1.2.2.2.2.1 k0_h5
theorem k0_off6_inb : ∀ (d0 : Dev nD) (v46 : BitVec 32) (k0_hw1 : k0_chk1 d0 v46), ∀ (k0_h6 : k0_cond6 v46 = 1#1), ∀ a, (k0_off6 d0 v46) a + S64x256.size a ≤ S512x256.size a := fun d0 v46 k0_hw1 k0_h6 => k0_hw1.2.2.2.2.2.1 k0_h6
theorem k0_off7_inb : ∀ (d0 : Dev nD) (v46 : BitVec 32) (k0_hw1 : k0_chk1 d0 v46), ∀ (k0_h7 : k0_cond7 v46 = 1#1), ∀ a, (k0_off7 d0 v46) a + S64x256.size a ≤ S512x256.size a := fun d0 v46 k0_hw1 k0_h7 => k0_hw1.2.2.2.2.2.2.1 k0_h7
theorem k0_off8_inb : ∀ (d0 : Dev nD) (v46 : BitVec 32) (k0_hw1 : k0_chk1 d0 v46), ∀ (k0_h8 : k0_cond8 v46 = 1#1), ∀ a, (k0_off8 d0 v46) a + S64x256.size a ≤ S512x256.size a := fun d0 v46 k0_hw1 k0_h8 => k0_hw1.2.2.2.2.2.2.2 k0_h8

def k0_dev10 (d0 : Dev nD) : Nat :=
  let c0_i32_110 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_109 : BitVec 32 := 4#32
  let v231 : BitVec 32 := Scalar.muli v9 c4_i32_109
  let v232 : BitVec 32 := Scalar.addi c0_i32_110 v231
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_111 : BitVec 32 := 2#32
  let v233 : BitVec 32 := Scalar.muli v5 c2_i32_111
  let v234 : BitVec 32 := Scalar.addi v232 v233
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_112 : BitVec 32 := 1#32
  let v235 : BitVec 32 := Scalar.muli v8 c1_i32_112
  let v236 : BitVec 32 := Scalar.addi v234 v235
  v236.toNat
abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x512 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1024x256 : Shape := ⟨2, ![1024, 256]⟩
abbrev S2x512 : Shape := ⟨2, ![2, 512]⟩
abbrev S1024 : Shape := ⟨1, ![1024]⟩
abbrev S_ : Shape := ⟨0, ![]⟩
abbrev S1024x1 : Shape := ⟨2, ![1024, 1]⟩

abbrev nBuf : Space → Nat
  | .hbm => 15
  | .vmem => 0
  | .smem => 0
  | _ => 0

abbrev bufTy : (tb : Table) → Fin (tcTables nBuf tb) → BufTy
  | .hbm, ⟨0, _⟩ => ⟨S1024x256, .f32⟩
  | .hbm, ⟨1, _⟩ => ⟨S2x512, .i32⟩
  | .hbm, ⟨2, _⟩ => ⟨S1024, .i32⟩
  | .hbm, ⟨3, _⟩ => ⟨S1024, .i32⟩
  | .hbm, ⟨4, _⟩ => ⟨S1024, .i32⟩
  | .hbm, ⟨5, _⟩ => ⟨S1024, .i32⟩
  | .hbm, ⟨6, _⟩ => ⟨S_, .i32⟩
  | .hbm, ⟨7, _⟩ => ⟨S1024, .i32⟩
  | .hbm, ⟨8, _⟩ => ⟨S1024, .i1⟩
  | .hbm, ⟨9, _⟩ => ⟨S_, .i32⟩
  | .hbm, ⟨10, _⟩ => ⟨S1024, .i32⟩
  | .hbm, ⟨11, _⟩ => ⟨S1024, .i32⟩
  | .hbm, ⟨12, _⟩ => ⟨S1024, .i32⟩
  | .hbm, ⟨13, _⟩ => ⟨S1024x1, .i32⟩
  | .hbm, ⟨14, _⟩ => ⟨S1024x256, .f32⟩
  | _, _ => ⟨S1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_v1_0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]
-- ==== Proof.Words.lean ====
module

public import proofs.«01_k».proof.Proof.Gen.KernelIdeal
public import proofs.«01_k».proof.Proof.Gen.KernelIdeal.Skeleton

@[expose] public section

noncomputable section

/-! # What the kernel's words say

The devices it addresses, the number of chunks it sends or receives, the guards and the row offsets of the chunk
transfers: for any number of departing rows up to 512. -/

namespace Cert.Exchange

open Cert.KernelIdeal Cert.KernelIdeal.Gen
open Idealize.ShloMosaic

/-- The device across the `x` axis: the same `y` and `z`, the other `x`. -/
def peer (c : Dev nD) : Dev nD := ⟨(c.val + 4) % 8, Nat.mod_lt _ (by decide)⟩

theorem peer_peer (c : Dev nD) : peer (peer c) = c := by revert c; decide
theorem peer_ne (c : Dev nD) : peer c ≠ c := by revert c; decide

/-- `peer` as a permutation of the devices. -/
def peerEquiv : Dev nD ≃ Dev nD := ⟨peer, peer, peer_peer, peer_peer⟩

/-- A device's place along `x`, as the kernel computes it. -/
def xW (c : Dev nD) : BitVec 32 := Scalar.remsi (Scalar.divsi (Dev.word c) 4#32) 2#32

/-- A device's place along `x`. -/
def xN (c : Dev nD) : ℕ := c.val / 4

theorem xW_eq (c : Dev nD) : xW c = BitVec.ofNat 32 (xN c) := by revert c; decide
theorem xN_lt (c : Dev nD) : xN c < 2 := by revert c; decide
theorem xN_peer (c : Dev nD) : xN (peer c) = 1 - xN c := by revert c; decide

theorem dev1_eq (c : Dev nD) : (⟨k0_dev1 c, k0_dev1_lt c⟩ : Dev nD) = peer c := by revert c; decide
theorem dev2_eq (c : Dev nD) : (⟨k0_dev2 c, k0_dev2_lt c⟩ : Dev nD) = peer c := by revert c; decide

/-- The device chunk `k`'s transfer addresses. -/
def devF : Fin 8 → Dev nD → Dev nD :=
  ![fun c => ⟨k0_dev3 c, k0_dev3_lt c⟩, fun c => ⟨k0_dev4 c, k0_dev4_lt c⟩, fun c => ⟨k0_dev5 c, k0_dev5_lt c⟩,
    fun c => ⟨k0_dev6 c, k0_dev6_lt c⟩, fun c => ⟨k0_dev7 c, k0_dev7_lt c⟩, fun c => ⟨k0_dev8 c, k0_dev8_lt c⟩,
    fun c => ⟨k0_dev9 c, k0_dev9_lt c⟩, fun c => ⟨k0_dev10 c, k0_dev10_lt c⟩]

theorem devF_eq (k : Fin 8) (c : Dev nD) : devF k c = peer c := by revert k c; decide

/-- How many 64-row chunks hold `n` rows. -/
def nch (n : ℕ) : ℕ := (n + 63) / 64

theorem nch_le {n : ℕ} (h : n ≤ 512) : nch n ≤ 8 := by unfold nch; omega
theorem le_nch (n : ℕ) : n ≤ 64 * nch n := by unfold nch; omega

/-- The kernel's word for the number of chunks, from the word for the number of rows. -/
def nchW (v46 : BitVec 32) : BitVec 32 :=
  let v48 : BitVec 32 := Scalar.subi (Scalar.addi v46 64#32) 1#32
  let v49 : BitVec 32 := Scalar.divsi v48 64#32
  Scalar.select
    (Scalar.andi
      (Scalar.cmpi .ne (Scalar.subi (Scalar.extui (Scalar.cmpi .sgt v48 0#32) : BitVec 32) (Scalar.extui (Scalar.cmpi .slt v48 0#32)))
        (Scalar.subi (Scalar.extui (Scalar.cmpi .sgt 64#32 0#32) : BitVec 32) (Scalar.extui (Scalar.cmpi .slt 64#32 0#32))))
      (Scalar.cmpi .ne (Scalar.remsi v48 64#32) 0#32))
    (Scalar.subi v49 1#32) v49

/-- The guard of a wait on chunk `k`, from the word for the number of chunks. -/
def moreW (w : BitVec 32) (k : BitVec 32) : BitVec 1 := Scalar.cmpi .ne (Scalar.extui (Scalar.cmpi .sgt w k) : BitVec 32) 0#32

theorem nchW_fin : ∀ n : Fin 513, nchW (BitVec.ofNat 32 n.val) = BitVec.ofNat 32 (nch n.val) := by decide +kernel
theorem moreW_fin : ∀ (n : Fin 9) (k : Fin 8), moreW (BitVec.ofNat 32 n.val) (BitVec.ofNat 32 k.val) = 1#1 ↔ k.val < n.val := by decide +kernel

theorem nchW_eq {n : ℕ} (h : n ≤ 512) : nchW (BitVec.ofNat 32 n) = BitVec.ofNat 32 (nch n) := nchW_fin ⟨n, by omega⟩
theorem moreW_iff {n : ℕ} (h : n ≤ 8) (k : Fin 8) : moreW (BitVec.ofNat 32 n) (BitVec.ofNat 32 k.val) = 1#1 ↔ k.val < n :=
  moreW_fin ⟨n, by omega⟩ k

/-- The guard of chunk `k`'s transfer. -/
def condF : Fin 8 → BitVec 32 → BitVec 1 := ![k0_cond1, k0_cond2, k0_cond3, k0_cond4, k0_cond5, k0_cond6, k0_cond7, k0_cond8]

/-- The row offset, on the receiving device, of chunk `k`. -/
def offF : Fin 8 → Dev nD → BitVec 32 → Fin 2 → Nat := ![k0_off1, k0_off2, k0_off3, k0_off4, k0_off5, k0_off6, k0_off7, k0_off8]

/-- The first chunk place, on the receiving device, of the `N` chunks a device sends: the bottom if the sender is
    first along `x`, else such that the last chunk ends at the top. -/
def base (c : Dev nD) (N : ℕ) : ℕ := xN c * (8 - N)

theorem condF_fin : ∀ (k : Fin 8) (n : Fin 513), condF k (BitVec.ofNat 32 n.val) = 1#1 ↔ k.val < nch n.val := by decide +kernel

theorem offF_fin : ∀ (k : Fin 8) (c : Dev nD) (n : Fin 513), k.val < nch n.val →
    offF k c (BitVec.ofNat 32 n.val) 0 = 64 * (base c (nch n.val) + k.val) ∧ offF k c (BitVec.ofNat 32 n.val) 1 = 0 := by decide +kernel

theorem condF_iff (k : Fin 8) {n : ℕ} (h : n ≤ 512) : condF k (BitVec.ofNat 32 n) = 1#1 ↔ k.val < nch n := condF_fin k ⟨n, by omega⟩
theorem offF_eq (k : Fin 8) (c : Dev nD) {n : ℕ} (h : n ≤ 512) (hk : k.val < nch n) :
    offF k c (BitVec.ofNat 32 n) = ![64 * (base c (nch n) + k.val), 0] := by
  have := offF_fin k c ⟨n, by omega⟩ hk
  funext a; fin_cases a
  · exact this.1
  · exact this.2

/-- The side condition of the chunk offsets holds: every chunk sent lands inside the receiver's block. -/
theorem chk_ok (c : Dev nD) {n : ℕ} (h : n ≤ 512) : k0_chk1 c (BitVec.ofNat 32 n) := by
  have key : ∀ (k : Fin 8), condF k (BitVec.ofNat 32 n) = 1#1 → ∀ a, offF k c (BitVec.ofNat 32 n) a + S64x256.size a ≤ S512x256.size a := by
    intro k hk a
    have hk' := (condF_iff k h).mp hk
    have h8 := nch_le h
    rw [offF_eq k c h hk']
    have hx := xN_lt c
    fin_cases a
    · show 64 * (base c (nch n) + k.val) + 64 ≤ 512
      have hb : base c (nch n) ≤ 8 - nch n := by unfold base; have : xN c ≤ 1 := by omega
                                                 calc xN c * (8 - nch n) ≤ 1 * (8 - nch n) := Nat.mul_le_mul_right _ this
                                                   _ = _ := Nat.one_mul _
      omega
    · exact le_refl 256
  exact ⟨key 0, key 1, key 2, key 3, key 4, key 5, key 6, key 7⟩

/-- The chunk place chunk `k` takes on the receiving device, a rotation of the eight places. -/
def slot (c : Dev nD) (N : ℕ) (k : Fin 8) : Fin 8 := ⟨(base c N + k.val) % 8, Nat.mod_lt _ (by decide)⟩

theorem slot_val (c : Dev nD) {N : ℕ} (hN : N ≤ 8) {k : Fin 8} (hk : k.val < N) : (slot c N k).val = base c N + k.val := by
  have hx := xN_lt c
  have hb : base c N ≤ 8 - N := by
    unfold base
    calc xN c * (8 - N) ≤ 1 * (8 - N) := Nat.mul_le_mul_right _ (by omega)
      _ = _ := Nat.one_mul _
  exact Nat.mod_eq_of_lt (by omega)

theorem slot_bij (c : Dev nD) (N : ℕ) : Function.Bijective (slot c N) := by
  refine (Finite.injective_iff_bijective).mp fun k k' h => Fin.ext ?_
  have h' : (base c N + k.val) % 8 = (base c N + k'.val) % 8 := congrArg Fin.val h
  have := k.isLt; have := k'.isLt; omega

/-- The rotation as a permutation. -/
def slotEquiv (c : Dev nD) (N : ℕ) : Fin 8 ≃ Fin 8 := Equiv.ofBijective _ (slot_bij c N)

end Cert.Exchange

end
-- ==== Proof.Count.lean ====
module

public import proofs.«01_k».proof.Proof.Words
public import Idealize.ShloMosaic.Lib.WordSum
public import Idealize.ShloMosaic.Lib.ValueIdxCore

@[expose] public section

noncomputable section

/-! # Counting the marked rows

The kernel's sum of a mask over the 512 rows is the number of rows the mask marks. -/

namespace Cert.Exchange

open Cert.KernelIdeal Cert.KernelIdeal.Gen
open Idealize.ShloMosaic Idealize.ShloMosaic.ValueIdx Idealize.ShloMosaic.WordSum

variable {F : FTy → Type} [FloatOps F]

/-- The place of row `j` in a row vector. -/
abbrev at0 (j : Fin 512) : S1x512.Idx := ix2 (0 : Fin 1) j

/-- How many rows a mask marks. -/
def cnt (v : IVec S1x512 1) : ℕ := (Finset.univ.filter fun j : Fin 512 => v (at0 j) = 1#1).card

theorem cnt_le (v : IVec S1x512 1) : cnt v ≤ 512 := (Finset.card_filter_le _ _).trans (by simp)

/-- A row vector's places are the rows. -/
def rowEquiv : Fin 512 ≃ S1x512.Idx where
  toFun := at0
  invFun i := i 1
  left_inv _ := rfl
  right_inv i := by
    refine Eq.trans ?_ (eq_ix2 i).symm
    have : (0 : Fin 1) = i 0 := Subsingleton.elim _ _
    exact congrArg (fun a => ix2 a (i 1)) this

theorem sum_bit (v : IVec S1x512 1) : ∑ i : S1x512.Idx, ((v i).setWidth 32).toNat = cnt v := by
  rw [← Equiv.sum_comp rowEquiv]
  unfold cnt
  rw [Finset.card_filter]
  refine Finset.sum_congr rfl fun j _ => ?_
  show ((v (at0 j)).setWidth 32).toNat = _
  generalize v (at0 j) = b
  revert b; decide

/-- The kernel's sum of a mask counts its marked rows. -/
theorem sum_word (v : IVec S1x512 1) : (extractAt ![0, 0, 0] (k0_pay5 v) inpos_S1x1x1_p0_0_0).toNat = cnt v := by
  have hall (j : S1.Idx) : Finset.univ.filter (fun i : S1x1x512.Idx => reduces_S1x1x512_S1.drop i = j) = Finset.univ := by
    refine Finset.filter_true_of_mem fun i _ => funext fun b => ?_
    have hb : b = 0 := Subsingleton.elim _ _
    subst hb
    exact Subsingleton.elim (α := Fin 1) _ _
  have hs : ∑ i : S1x1x512.Idx, (shapeCast S1x1x512 (extui 32 v natLt_1_32) shapeCasts_S1x512_S1x1x512 i).toNat = cnt v := by
    rw [← sum_bit v]
    exact Equiv.sum_comp (Shape.reshapeEquiv shapeCasts_S1x512_S1x1x512) fun i => ((v i).setWidth 32).toNat
  have hle := cnt_le v
  unfold k0_pay5 extractAt
  show (multiReductionI .add [1, 2] S1 _ 0#32 reduces_S1x1x512_S1 rfl _).toNat = cnt v
  refine (toNat_multiReductionI_add _ reduces_S1x1x512_S1 rfl _ ?_).trans ?_
  · rw [hall, hs]; omega
  · rw [hall, hs]

end Cert.Exchange

end
-- ==== Proof.Cells.lean ====
module

public import proofs.«01_k».proof.Proof.Count
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Ring
public import Idealize.ShloMosaic.Lib.Tactic

@[expose] public section

noncomputable section

/-! # The semaphores, the memories and what each holds

The semaphores of one device are: the barrier, nine send semaphores and nine receive semaphores. A channel is either
the exchange of the destinations (`none`) or one 64-row chunk (`some k`). -/

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

/-- The ghost state: the pipeline's rounds and the exchange's. -/
abbrev UX : Type := URounds (GSem nD τ sig) Unit
abbrev UU : Type := UR sig nD τ × UX

local notation "𝕄" => MT nD τ sig Unit (Elt F) ℕ UU ℕ

abbrev EP : Emb (UR sig nD τ) (MT nD τ sig Unit (Elt F) ℕ UU ℕ) := embL
abbrev ER : Emb UX (MT nD τ sig Unit (Elt F) ℕ UU ℕ) := embR

abbrev 𝒱₀ : Variants := Variants.none

variable (m : (ℓ : Loc nD τ sig) → Buf (Elt F) ℓ)

/-! ## Semaphores -/

/-- A channel: the destinations, or a chunk. -/
abbrev Chan : Type := Option (Fin 8)
/-- One of a device's semaphores: the barrier, or the send (`false`) or receive (`true`) semaphore of a channel. -/
abbrev Kind : Type := Option (Bool × Chan)

/-- The place of a channel's semaphore in its array. -/
def chIx : Chan → Fin 9
  | none => 8
  | some k => k.castSucc

theorem inb9 (j : Fin 9) : ∀ a, (![j.val] : Fin 1 → ℕ) a + S1.size a ≤ S9.size a := by revert j; decide

/-- The semaphore at place `j` of an array of nine. -/
def semAt (a : DmaSems sig S9) (j : Fin 9) : DmaSem sig :=
  ((a.slice (Rect.unit (s := S9) ![j.val] S1.size (inb9 j))).squeeze S_ squeezes_S1_S_).sem

abbrev sendS (k : Chan) : DmaSem sig := semAt cc0_scratch2 (chIx k)
abbrev recvS (k : Chan) : DmaSem sig := semAt cc0_scratch3 (chIx k)
abbrev barS : Sem sig := (SemArray.scalar (sig.barrier 0 rfl) : Sems sig S_).sem

/-- The semaphore of a kind. -/
@[reducible] def csem : Kind → SemLoc sig
  | none => .reg barS
  | some (false, k) => .dma (sendS k)
  | some (true, k) => .dma (recvS k)

def chOf (j : ℕ) : Chan := if h : j < 8 then some ⟨j, h⟩ else none

/-- Which of the exchange's kinds a semaphore is, if any. -/
def kindOf : SemLoc sig → Option Kind
  | .reg _ => some none
  | .dma q => if q.val < 3 then none else if q.val < 12 then some (some (false, chOf (q.val - 3))) else some (some (true, chOf (q.val - 12)))

theorem kindOf_csem (k : Kind) : kindOf (csem k) = some k := by revert k; decide

theorem csem_injective : Function.Injective csem := fun a b h => by
  have := congrArg kindOf h
  rw [kindOf_csem, kindOf_csem] at this
  exact Option.some.inj this

/-- A device's semaphore of a kind. -/
abbrev kcell (ck : Dev nD × Kind) : GSem nD τ sig := ((ck.1 : Thread nD τ), csem ck.2)

theorem kcell_injective : Function.Injective (kcell : Dev nD × Kind → GSem nD τ sig) := by
  rintro ⟨c, k⟩ ⟨c', k'⟩ h
  have h1 : c = c' := congrArg (fun g : GSem nD τ sig => g.1.1) h
  have h2 : k = k' := csem_injective (congrArg Prod.snd h)
  rw [h1, h2]

abbrev barCell (c : Dev nD) : GSem nD τ sig := kcell (c, none)
abbrev sendCell (c : Dev nD) (k : Chan) : GSem nD τ sig := kcell (c, some (false, k))
abbrev recvCell (c : Dev nD) (k : Chan) : GSem nD τ sig := kcell (c, some (true, k))

/-! ## Memories -/

abbrev xM : Memref sig .tc .vmem S512x256 .f32 := Memref.whole cc0_stg0_0
abbrev dM : Memref sig .tc .vmem S1x512 .i32 := Memref.whole cc0_stg1_0
abbrev oM : Memref sig .tc .vmem S512x256 .f32 := Memref.whole cc0_stg2_0
abbrev sM : Memref sig .tc .vmem S512x256 .f32 := Memref.whole cc0_scratch0
abbrev aM : Memref sig .tc .vmem S1x512 .i32 := Memref.whole cc0_scratch1

theorem inbChunk (k : Fin 8) : ∀ a, (![64 * k.val, 0] : Fin 2 → ℕ) a + S64x256.size a ≤ S512x256.size a := by revert k; decide

/-- The rectangle of 64-row chunk `k` of a 512-row buffer. -/
abbrev chunkR (k : Fin 8) : Rect S512x256 := Rect.unit (s := S512x256) ![64 * k.val, 0] S64x256.size (inbChunk k)

/-- Chunk `k` of a 512-row memory. -/
abbrev chunk (M : Memref sig .tc .vmem S512x256 .f32) (k : Fin 8) : Memref sig .tc .vmem S64x256 .f32 := M.slice (chunkR k) (fun _ => rfl)

theorem chunk_disjoint (k k' : Fin 8) (h : k ≠ k') : Disjoint (chunkR k).set (chunkR k').set :=
  Ring.lead_disjoint (s := S512x256) (0 : Fin 2) 64 (fun b : Fin 8 => ![64 * b.val, 0]) S64x256.size inbChunk (fun _ => rfl) rfl k k' h

theorem chunk_cover : Finset.univ.biUnion (fun k => (chunkR k).set) = Finset.univ :=
  Ring.lead_cover (s := S512x256) (0 : Fin 2) 64 (fun b : Fin 8 => ![64 * b.val, 0]) S64x256.size inbChunk (fun _ => rfl)
    (fun b a ha => by fin_cases a; · exact absurd rfl ha
                      · rfl) rfl
    (fun a ha => by fin_cases a; · exact absurd rfl ha
                    · rfl) rfl

theorem mem_chunk (k : Fin 8) (i : S512x256.Idx) : i ∈ (chunkR k).set ↔ 64 * k.val ≤ (i 0).val ∧ (i 0).val < 64 * k.val + 64 := by
  rw [Rect.mem_set_unit]
  refine ⟨fun h => h 0, fun h a => ?_⟩
  fin_cases a
  · exact h
  · exact ⟨Nat.zero_le _, by have := (i 1).isLt; exact this⟩

/-- The credit of the destinations' exchange and of a chunk's. -/
abbrev ND : ℕ := (aM : Memref sig .tc .vmem S1x512 .i32).view.dmaCredit
abbrev NC : ℕ := (chunk oM 0).view.dmaCredit
theorem ND_pos : 0 < ND := View.dmaCredit_pos _ (by decide)
theorem NC_pos : 0 < NC := View.dmaCredit_pos _ (by decide)
theorem NC_chunk (k : Fin 8) : (chunk oM k).view.dmaCredit = NC := rfl

/-! ## Contents -/

/-- Device `c`'s rows and destinations, as fetched. -/
def xC (c : Dev nD) : (cc0_stg0_0 : Ref sig .tc).ty.Contents (Elt F) := (win0_0.blk (0 : Fin 1)).view.read (Elt F) (m ((c : Thread nD τ).loc main_arg0))
def dC (c : Dev nD) : (cc0_stg1_0 : Ref sig .tc).ty.Contents (Elt F) := (win0_1.blk (0 : Fin 1)).view.read (Elt F) (m ((c : Thread nD τ).loc main_arg1))

abbrev iota0 : IVec S512x512 32 := iota .tc S512x512 32 [0] iota_S512x512_d0_w32
abbrev iota1 : IVec S512x512 32 := iota .tc S512x512 32 [1] iota_S512x512_d1_w32

/-- The number of rows device `c` sends away, as a word and as a number; the number of chunks they fill. -/
def sW (c : Dev nD) : BitVec 32 := extractAt ![0, 0, 0] (k0_pay5 (k0_pay2 (F := F) c (dC m c))) inpos_S1x1x1_p0_0_0
def sN (c : Dev nD) : ℕ := (sW m c).toNat
def nC (c : Dev nD) : ℕ := nch (sN m c)

theorem sN_le (c : Dev nD) : sN m c ≤ 512 := by unfold sN sW; rw [sum_word]; exact cnt_le _
theorem sW_eq (c : Dev nD) : sW m c = BitVec.ofNat 32 (sN m c) := by unfold sN; rw [BitVec.ofNat_toNat, BitVec.setWidth_eq]
theorem nC_le (c : Dev nD) : nC m c ≤ 8 := nch_le (sN_le m c)

/-- The rows device `c` sends, packed into whole chunks. -/
def sC (c : Dev nD) : (cc0_scratch0 : Ref sig .tc).ty.Contents (Elt F) :=
  k0_pay7 (k0_pay6 (xW c) (k0_pay2 (F := F) c (dC m c)) (k0_pay3 c (dC m c)) iota0) (xC m c)

/-- Where row `r` of device `c`'s result is found among the rows its peer sends. -/
def fromRow (c : Dev nD) (r : Fin 512) : Fin 512 := ⟨(r.val + 512 - 64 * base (peer c) (nC m (peer c))) % 512, Nat.mod_lt _ (by decide)⟩

/-- Device `c`'s result where its peer's chunks have landed. -/
def landed (c : Dev nD) : (cc0_stg2_0 : Ref sig .tc).ty.Contents (Elt F) := fun i => sC m (peer c) (ix2 (fromRow m c (i 0)) (i 1))

/-- The place on the receiving device of device `c`'s chunk `k`. -/
abbrev place (c : Dev nD) (k : Fin 8) : Fin 8 := slot c (nC m c) k

/-! ## The payloads -/

/-- Whether device `c`'s semaphore of a kind is paid in the run. -/
def live (c : Dev nD) : Kind → Prop
  | none => True
  | some (_, none) => True
  | some (false, some k) => k.val < nC m c
  | some (true, some k) => k.val < nC m (peer c)

instance (c : Dev nD) (k : Kind) : Decidable (live m c k) := by
  rcases k with _ | ⟨_ | _, _ | k⟩ <;> unfold live <;> infer_instance

/-- What a payment is worth. -/
def amt : Kind → ℕ
  | none => 1
  | some (_, none) => ND
  | some (_, some _) => NC

theorem amt_pos (k : Kind) : 0 < amt k := by
  rcases k with _ | ⟨_, _ | k⟩
  · exact Nat.one_pos
  · exact ND_pos
  · exact NC_pos

def aPts (c : Dev nD) (f : (cc0_scratch1 : Ref sig .tc).ty.Contents (Elt F)) : sProp 𝕄 := ((c : Thread nD τ).loc cc0_scratch1) ↦{fullShare} f
def dHalf (c : Dev nD) (q : PosShare TreeShare) : sProp 𝕄 := ((c : Thread nD τ).loc cc0_stg1_0) ↦{q} dC m c
def sPts (c : Dev nD) (k : Fin 8) : sProp 𝕄 := ((c : Thread nD τ).loc cc0_scratch0) ↦[(chunkR k).set]{fullShare} sC m c
def oPts (c : Dev nD) (k : Fin 8) (f : (cc0_stg2_0 : Ref sig .tc).ty.Contents (Elt F)) : sProp 𝕄 := ((c : Thread nD τ).loc cc0_stg2_0) ↦[(chunkR k).set]{fullShare} f

/-- The chunk of the peer's result that device `c`'s chunk `k` is sent to, if it is sent. -/
def lent (c : Dev nD) (k : Fin 8) : sProp 𝕄 := if k.val < nC m c then iprop(∃ f, oPts (peer c) (place m c k) f) else iprop(emp)

/-- What a payment hands over: the barrier's, the peer's receiving memories; a send's, the source back; a receive's, the
    destination with what was sent. -/
def pay (c : Dev nD) : Kind → sProp 𝕄
  | none => iprop((∃ f, aPts (peer c) f) ∗ bigSep Finset.univ fun k : Fin 8 => lent m c k)
  | some (false, none) => dHalf m c fullShare.left
  | some (true, none) => aPts c (dC m (peer c))
  | some (false, some k) => sPts m c k
  | some (true, some k) => oPts c (place m (peer c) k) (landed m c)

instance lent_storable (c : Dev nD) (k : Fin 8) : BI.Storable (upEmb : UEmb _ 𝕄) (lent m c k) := by
  unfold lent oPts; split <;> infer_instance

instance pay_storable (c : Dev nD) (k : Kind) : BI.Storable (upEmb : UEmb _ 𝕄) (pay m c k) := by
  rcases k with _ | ⟨_ | _, _ | k⟩ <;> unfold pay <;> (try unfold aPts) <;> (try unfold dHalf) <;> (try unfold sPts) <;> (try unfold oPts) <;> infer_instance

end Cert.Exchange

end
-- ==== Proof.Sched.lean ====
module

public import proofs.«01_k».proof.Proof.Cells

@[expose] public section

noncomputable section

/-! # The schedule of the exchange

One round. Every semaphore that is paid at all is paid once: the barrier by the peer's signal, a send or receive
semaphore by the transfer of its channel. What a device has yet to pay at each moment, and the order of waits. -/

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- The schedule: at round 0 a paid semaphore has one payment. -/
def rd : Rounds.Schedule (GSem nD τ sig) Unit 𝕄 where
  duties g r := if r = 0 ∧ g.1.2 = .tc ∧ ∃ k, kindOf g.2 = some k ∧ live m g.1.1 k then {()} else ∅
  unitless _ := False
  amount g _ _ := match kindOf g.2 with | some k => amt k | none => 1
  payload g _ _ := match kindOf g.2 with | some k => pay m g.1.1 k | none => iprop(emp)
  amount_pos g _ _ _ := by
    cases h : kindOf g.2 with
    | none => exact Nat.one_pos
    | some k => exact amt_pos k

instance rd_storable (g : GSem nD τ sig) (r : ℕ) (d : Unit) : BI.Storable (upEmb : UEmb _ 𝕄) ((rd m).payload g r d) := by
  show BI.Storable upEmb (match kindOf g.2 with | some k => pay m g.1.1 k | none => iprop(emp))
  cases kindOf g.2 <;> infer_instance

theorem duties_live {c : Dev nD} {k : Kind} (h : live m c k) : (rd m).duties (kcell (c, k)) 0 = {()} :=
  if_pos ⟨rfl, rfl, k, kindOf_csem k, h⟩

theorem duties_dead {c : Dev nD} {k : Kind} (h : ¬ live m c k) (r : ℕ) : (rd m).duties (kcell (c, k)) r = ∅ :=
  if_neg fun ⟨_, _, k', hk, hl⟩ => h (by
    have : k = k' := Option.some.inj ((kindOf_csem k).symm.trans hk)
    subst this; exact hl)

theorem duties_later (g : GSem nD τ sig) : ∀ r, 1 ≤ r → (rd m).duties g r = ∅ := fun r hr => if_neg fun h => by have := h.1; omega

theorem amount_cell (c : Dev nD) (k : Kind) (d : Unit) : (rd m).amount (kcell (c, k)) 0 d = amt k := by
  show (match kindOf (csem k) with | some k => amt k | none => 1) = _
  rw [kindOf_csem]

theorem payload_cell (c : Dev nD) (k : Kind) (d : Unit) : (rd m).payload (kcell (c, k)) 0 d = pay m c k := by
  show (match kindOf (csem k) with | some k => pay m c k | none => iprop(emp)) = _
  rw [kindOf_csem]

theorem expect_cell {c : Dev nD} {k : Kind} (h : live m c k) : (rd m).expect (kcell (c, k)) 0 = amt k := by
  unfold Schedule.expect Schedule.amountOf; rw [duties_live m h, Finset.sum_singleton, amount_cell]

theorem rest_cell {c : Dev nD} {k : Kind} (h : live m c k) :
    bigSep ((rd m).duties (kcell (c, k)) 0 \ ∅) (fun d => (rd m).payload (kcell (c, k)) 0 d) = pay m c k := by
  rw [Finset.sdiff_empty, duties_live m h, bigSep_singleton, payload_cell]

/-! ## What a device has yet to pay -/

/-- What device `c` pays its peer's semaphore of a kind. -/
def owe (c : Dev nD) : Kind → ℕ
  | none => 1
  | some (true, none) => ND
  | some (true, some k) => if k.val < nC m c then NC else 0
  | some (false, _) => 0

/-- The order in which a device pays: the barrier, the destinations, the chunks; a send semaphore is its own. -/
def ord : Kind → ℕ
  | none => 0
  | some (true, none) => 1
  | some (true, some k) => k.val + 2
  | some (false, _) => 10

/-- What device `c` owes once the payments before place `i` are made. -/
def OS (c : Dev nD) (i : ℕ) : CellTallies nD τ sig Unit :=
  ∑ k ∈ Finset.univ.filter (fun k : Kind => i ≤ ord k), tallyAt (kcell (peer c, k)) () (owe m c k)

theorem ord_step (k : Kind) (h : ord k < 10) : Finset.univ.filter (fun x : Kind => ord k ≤ ord x) = insert k (Finset.univ.filter fun x : Kind => ord k + 1 ≤ ord x) := by
  have key : ∀ k : Kind, ord k < 10 → ∀ x : Kind, (ord k ≤ ord x ↔ x = k ∨ ord k + 1 ≤ ord x) := by decide
  ext x
  simp only [Finset.mem_filter, Finset.mem_univ, true_and, Finset.mem_insert]
  exact key k h x

theorem OS_step (c : Dev nD) (k : Kind) (h : ord k < 10) : OS m c (ord k) = OS m c (ord k + 1) + tallyAt (kcell (peer c, k)) () (owe m c k) := by
  unfold OS
  rw [ord_step k h, Finset.sum_insert (by simp), add_comm]

theorem OS_end (c : Dev nD) : OS m c 10 = 0 := by
  refine Finset.sum_eq_zero fun k hk => ?_
  have h10 : 10 ≤ ord k := (Finset.mem_filter.mp hk).2
  have : ∀ k : Kind, 10 ≤ ord k → ∃ j, k = some (false, j) := by decide
  obtain ⟨j, rfl⟩ := this k h10
  exact tallyAt_zero _ _

theorem OS_at (c d : Dev nD) (i : ℕ) (k : Kind) : OS m d i (kcell (c, k)) () = if c = peer d ∧ i ≤ ord k then owe m d k else 0 := by
  unfold OS
  rw [Finset.sum_apply, Finsupp.finset_sum_apply]
  by_cases hc : c = peer d ∧ i ≤ ord k
  · obtain ⟨rfl, hi⟩ := hc
    rw [if_pos ⟨rfl, hi⟩, Finset.sum_eq_single_of_mem k (Finset.mem_filter.mpr ⟨Finset.mem_univ _, hi⟩), tallyAt_apply, if_pos ⟨rfl, rfl⟩]
    intro k' _ hk'
    rw [tallyAt_apply, if_neg]
    rintro ⟨h, _⟩
    exact hk' (congrArg Prod.snd (kcell_injective h)).symm
  · rw [if_neg hc]
    refine Finset.sum_eq_zero fun k' hk' => ?_
    rw [tallyAt_apply, if_neg]
    rintro ⟨h, _⟩
    have := kcell_injective h
    exact hc ⟨congrArg Prod.fst this, by have h2 : k = k' := congrArg Prod.snd this; rw [h2]; exact (Finset.mem_filter.mp hk').2⟩

theorem OS_pos {c : Dev nD} {i : ℕ} {g : GSem nD τ sig} {u : Unit} (h : 0 < OS m c i g u) : ∃ k : Kind, i ≤ ord k ∧ ord k < 10 ∧ g = kcell (peer c, k) := by
  by_contra hn
  refine absurd h (Nat.not_lt.mpr (Nat.le_of_eq ?_))
  unfold OS
  rw [Finset.sum_apply, Finsupp.finset_sum_apply]
  refine Finset.sum_eq_zero fun k hk => ?_
  have hi : i ≤ ord k := (Finset.mem_filter.mp hk).2
  by_cases h10 : ord k < 10
  · rw [tallyAt_apply, if_neg]
    rintro ⟨h, _⟩
    exact hn ⟨k, hi, h10, h⟩
  · have : ∀ k : Kind, ¬ ord k < 10 → ∃ j, k = some (false, j) := by decide
    obtain ⟨j, rfl⟩ := this k h10
    show tallyAt (kcell (peer c, some (false, j))) () 0 g u = 0
    rw [tallyAt_zero]; rfl

/-! ## Levels -/

def L (g : GSem nD τ sig) : Finset Unit := if g.1.2 = .tc then {()} else ∅

/-- Barriers below receive semaphores, everything else at the bottom. -/
def lv (g : GSem nD τ sig) (_ : Unit) : ℕ := match kindOf g.2 with
  | some none => 1
  | some (some (true, _)) => 2
  | _ => 0

theorem L_of_ne (g : GSem nD τ sig) (h : g.1.2 ≠ .tc) : L g = ∅ := if_neg h
theorem L_tc (c : Dev nD) (sm : SemLoc sig) : L ((c : Thread nD τ), sm) = {()} := if_pos rfl

theorem lv_cell (c : Dev nD) (k : Kind) : lv (kcell (c, k)) () = match k with | none => 1 | some (true, _) => 2 | some (false, _) => 0 := by
  show (match kindOf (csem k) with | some none => 1 | some (some (true, _)) => 2 | _ => 0) = _
  rw [kindOf_csem]
  rcases k with _ | ⟨_ | _, _⟩ <;> rfl

theorem mayWait_low (c : Dev nD) (sm : SemLoc sig) (hs : lv ((c : Thread nD τ), sm) () = 0) (i : ℕ) :
    (levAts L lv : sProp 𝕄) ⊢ MayWait (c : Thread nD τ) sm () (OS m c i) := by
  refine MayOwe.of_cut (L := L) (lev := lv) 0 (fun p hp => by rw [Finset.mem_singleton.mp hp, L_tc]; exact Finset.mem_singleton_self _)
    (fun g u hg => by obtain ⟨k, _, _, rfl⟩ := OS_pos m hg; exact Finset.mem_singleton_self _)
    (fun p hp => by rw [Finset.mem_singleton.mp hp]; exact Nat.le_of_eq hs)
    (fun g u hg => by
      obtain ⟨k, _, hk, rfl⟩ := OS_pos m hg
      rw [lv_cell]
      rcases k with _ | ⟨_ | _, _⟩
      · decide
      · exact absurd hk (by show ¬ (10 < 10); decide)
      · show 0 < 2; decide)

theorem mayWait_bar (c : Dev nD) : (levAts L lv : sProp 𝕄) ⊢ MayWait (c : Thread nD τ) (.reg barS) () (OS m c 1) :=
  MayOwe.of_cut (L := L) (lev := lv) 1 (fun p hp => by rw [Finset.mem_singleton.mp hp, L_tc]; exact Finset.mem_singleton_self _)
    (fun g u hg => by obtain ⟨k, _, _, rfl⟩ := OS_pos m hg; exact Finset.mem_singleton_self _)
    (fun p hp => by rw [Finset.mem_singleton.mp hp]; exact Nat.le_of_eq (lv_cell c none))
    (fun g u hg => by
      obtain ⟨k, h1, hk, rfl⟩ := OS_pos m hg
      rw [lv_cell]
      rcases k with _ | ⟨_ | _, _⟩
      · exact absurd h1 (by show ¬ (1 ≤ 0); decide)
      · exact absurd hk (by show ¬ (10 < 10); decide)
      · show 1 < 2; decide)

end Cert.Exchange

end
-- ==== Proof.Steps.lean ====
module

public import proofs.«01_k».proof.Proof.Sched

@[expose] public section

noncomputable section

/-! # One guarded transfer, one guarded wait

The kernel repeats three guarded steps for each of the eight chunks: send it if there are that many, wait for the
peer's if it sends that many, wait for one's own to have left. -/

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ)

/-! ## The programs -/

abbrev TcProg (F : FTy → Type) [FloatOps F] (α : Type) : Type 1 := Prog (TpuEff nD τ sig (Elt F) Λ₀ .tc) α

theorem offInb {c : Dev nD} {w : BitVec 32} (hw : k0_chk1 c w) (k : Fin 8) (h : condF k w = 1#1) :
    ∀ a, offF k c w a + S64x256.size a ≤ S512x256.size a := by
  obtain ⟨h0, h1, h2, h3, h4, h5, h6, h7⟩ := hw
  fin_cases k
  · exact h0 h
  · exact h1 h
  · exact h2 h
  · exact h3 h
  · exact h4 h
  · exact h5 h
  · exact h6 h
  · exact h7 h

/-- Send chunk `k` if its guard holds, then go on. -/
def sendStep {α : Type} (c : Dev nD) (w : BitVec 32) (hw : k0_chk1 c w) (k : Fin 8) (K : TcProg F α) : TcProg F α :=
  if h : condF k w = 1#1 then
    .op (.enqueueDma (chunk sM k) (.remote (Dev.tc (devF k c)) (oM.slice (Rect.unit (s := S512x256) (offF k c w) S64x256.size (offInb hw k h)) (fun _ => rfl)) (.dma (sendS (some k))))
      (.dma (recvS (some k))) (View.wordExact_bits rfl) (View.wordExact_bits rfl) ⟨⟨rfl, Or.inl rfl⟩, trivial⟩) fun _ => K
  else K

/-- Wait for the peer's chunk `k` if its guard holds, then go on. -/
def recvStep {α : Type} (w : BitVec 32) (k : Fin 8) (K : TcProg F α) : TcProg F α :=
  if moreW w (BitVec.ofNat 32 k.val) = 1#1 then
    .op (.waitDma2 (recvS (some k)) (chunk sM k) (chunk oM k) (View.wordExact_bits rfl) (View.wordExact_bits rfl)) fun _ => K
  else K

/-- Wait for one's own chunk `k` to have left if its guard holds, then go on. -/
def leftStep {α : Type} (w : BitVec 32) (k : Fin 8) (K : TcProg F α) : TcProg F α :=
  if moreW w (BitVec.ofNat 32 k.val) = 1#1 then
    .op (.waitDma2 (sendS (some k)) (chunk oM k) (chunk sM k) (View.wordExact_bits rfl) (View.wordExact_bits rfl)) fun _ => K
  else K

/-! ## What is known of every semaphore -/

/-- Every semaphore's invariant, and that each is at round 0. -/
def records (K : Dev nD × Kind → ℕ) : sProp 𝕄 :=
  iprop((bigSep Finset.univ fun ck : Dev nD × Kind => cellInv ER (rd m) (K ck) (kcell ck))
    ∗ bigSep Finset.univ fun ck : Dev nD × Kind => reached ER (kcell ck) 0)

instance records_persistent (K : Dev nD × Kind → ℕ) : BI.Persistent (records m K) := by unfold records; infer_instance

theorem invs_at (K : Dev nD × Kind → ℕ) (ck : Dev nD × Kind) :
    (bigSep Finset.univ fun ck : Dev nD × Kind => (cellInv ER (rd m) (K ck) (kcell ck) : sProp 𝕄)) ⊢ cellInv ER (rd m) (K ck) (kcell ck) :=
  bigSep_elim (Finset.mem_univ ck)

theorem marks_at (ck : Dev nD × Kind) : (bigSep Finset.univ fun ck : Dev nD × Kind => (reached ER (kcell ck) 0 : sProp 𝕄)) ⊢ reached ER (kcell ck) 0 :=
  bigSep_elim (Finset.mem_univ ck)

theorem inv_at (K : Dev nD × Kind → ℕ) (ck : Dev nD × Kind) : records m K ⊢ cellInv ER (rd m) (K ck) (kcell ck) := by
  unfold records
  iintro ⟨HI, -⟩
  iapply (invs_at m K ck)
  iexact HI

theorem reached_at (K : Dev nD × Kind → ℕ) (ck : Dev nD × Kind) : records m K ⊢ reached ER (kcell ck) 0 := by
  unfold records
  iintro ⟨-, HR⟩
  iapply (marks_at ck)
  iexact HR

/-! ## Taking the chunks in turn -/

/-- The chunks before place `j` are at `B`, the others at `A`. -/
def turn (j : ℕ) (A B : Fin 8 → sProp 𝕄) : sProp 𝕄 := bigSep Finset.univ fun i : Fin 8 => if i.val < j then B i else A i

theorem turn_before (k : Fin 8) (A B : Fin 8 → sProp 𝕄) :
    turn k.val A B = iprop(A k ∗ bigSep (Finset.univ.erase k) fun i : Fin 8 => if i.val < k.val then B i else A i) := by
  unfold turn
  rw [bigSep_univ_at _ k, if_neg (Nat.lt_irrefl _)]

theorem turn_after (k : Fin 8) (A B : Fin 8 → sProp 𝕄) :
    turn (k.val + 1) A B = iprop(B k ∗ bigSep (Finset.univ.erase k) fun i : Fin 8 => if i.val < k.val then B i else A i) := by
  unfold turn
  rw [bigSep_univ_at _ k, if_pos (Nat.lt_succ_self _)]
  congr 1
  refine bigSep_congr fun i hi => ?_
  have : i.val ≠ k.val := fun h => (Finset.mem_erase.mp hi).1 (Fin.ext h)
  by_cases h : i.val < k.val
  · rw [if_pos h, if_pos (by omega)]
  · rw [if_neg h, if_neg (by omega)]

theorem turn_zero (A B : Fin 8 → sProp 𝕄) : turn 0 A B = bigSep Finset.univ A := by
  unfold turn; exact bigSep_congr fun i _ => if_neg (Nat.not_lt_zero _)
theorem turn_all (A B : Fin 8 → sProp 𝕄) : turn 8 A B = bigSep Finset.univ B := by
  unfold turn; exact bigSep_congr fun i _ => if_pos i.isLt

/-! ## Sending -/

theorem sM_chunk_set (k : Fin 8) : (chunk sM k).view.set = (chunkR k).set := View.set_slice_whole _ _
theorem oM_chunk_set (k : Fin 8) : (chunk oM k).view.set = (chunkR k).set := View.set_slice_whole _ _

/-- Chunk `k` written at its place on the peer is the peer's result where it has landed. -/
theorem landed_chunk (c : Dev nD) (k : Fin 8) (hk : k.val < nC m c) (fd : (cc0_stg2_0 : Ref sig .tc).ty.Contents (Elt F)) :
    ∀ i ∈ (chunkR (place m c k)).set,
      (chunk oM (place m c k)).view.write (Elt F) fd ((chunk sM k).view.read (Elt F) (sC m c)) Finset.univ i = landed m (peer c) i := by
  intro i hi
  rw [← oM_chunk_set, View.set, Finset.mem_map] at hi
  obtain ⟨j, -, rfl⟩ := hi
  rw [View.write_emb_of_mem _ _ (Finset.mem_univ j)]
  show sC m c ((chunkR k).emb j) = sC m (peer (peer c)) (ix2 (fromRow m (peer c) ((chunkR (place m c k)).emb j 0)) ((chunkR (place m c k)).emb j 1))
  rw [peer_peer]
  congr 1
  have hj0 : (j 0).val < 64 := (j 0).isLt
  have hp : (place m c k).val = base c (nC m c) + k.val := slot_val c (nC_le m c) hk
  have hb : base c (nC m c) + k.val < 8 := by rw [← hp]; exact (place m c k).isLt
  funext a
  fin_cases a
  · apply Fin.ext
    show 64 * k.val + 1 * (j 0).val = (64 * (place m c k).val + 1 * (j 0).val + 512 - 64 * base (peer (peer c)) (nC m (peer (peer c)))) % 512
    rw [peer_peer, hp]
    have hk8 := k.isLt
    omega
  · rfl

/-- Ready to send chunk `k`: its rows, the place it goes to if it goes, and the right to make both payments. -/
def ready (c : Dev nD) (k : Fin 8) : sProp 𝕄 :=
  iprop(sPts m c k ∗ lent m c k ∗ dutyTok ER (sendCell c (some k)) 0 () ∗ dutyTok ER (recvCell (peer c) (some k)) 0 ())

/-- Chunk `k` dealt with: on its way, or never sent. -/
def sent (c : Dev nD) (k : Fin 8) : sProp 𝕄 := if k.val < nC m c then cred (tallyAt (sendCell c (some k)) () NC) else sPts m c k

theorem wp_send_chunk (K : Dev nD × Kind → ℕ) (c n : Dev nD) (hn : n = peer c) (k : Fin 8) (hk : k.val < nC m c)
    (off : Fin 2 → ℕ) (inb : ∀ a, off a + S64x256.size a ≤ S512x256.size a) (hoff : off = ![64 * (place m c k).val, 0])
    {α : Type} {Q : α → sProp 𝕄} {P : TcProg F α} :
    iprop(records m K ∗ ready m c k ∗ ∃ W, owes (c : Thread nD τ) (OS m c (k.val + 2)) W)
      ⊢ iprop(((sent m c k ∗ ∃ W, owes (c : Thread nD τ) (OS m c (k.val + 3)) W) -∗ wp frame (wpE (defs₀ (F := F)) 𝒱₀ (c : Thread nD τ) none) Set.univ P Q)
          -∗ wp frame (wpE (defs₀ (F := F)) 𝒱₀ (c : Thread nD τ) none) Set.univ
            (.op (.enqueueDma (chunk sM k) (.remote (Dev.tc n) (oM.slice (Rect.unit (s := S512x256) off S64x256.size inb) (fun _ => rfl)) (.dma (sendS (some k))))
              (.dma (recvS (some k))) (View.wordExact_bits rfl) (View.wordExact_bits rfl) ⟨⟨rfl, Or.inl rfl⟩, trivial⟩) fun _ => P) Q) := by
  subst hn hoff
  unfold ready lent sent
  rw [if_pos hk, if_pos hk]
  iintro ⟨#HR, ⟨Hs, ⟨%fd, Ho⟩, HtS, HtV⟩, ⟨%W, HO⟩⟩ Hk
  iapply (Rounds.wp_send_pointsTo 𝒱₀ ER (rd m) (c : Thread nD τ) none (c' := (peer c : Thread nD τ)) (src := chunk sM k) (dst := chunk oM (place m c k))
      (κ₁ := K (c, some (false, some k))) (κ₂ := K (peer c, some (true, some k)))
      (r₁ := 0) (r₂ := 0) (d₁ := ()) (d₂ := ()) (q := fullShare) (fs := sC m c) (fd := fd)
      (by rw [duties_live m (k := some (false, some k)) hk]; exact Finset.mem_singleton_self _)
      (by rw [duties_live m (c := peer c) (k := some (true, some k)) (by show k.val < nC m (peer (peer c)); rw [peer_peer]; exact hk)]; exact Finset.mem_singleton_self _)
      () () NC rfl (amount_cell m c (some (false, some k)) ()) (amount_cell m (peer c) (some (true, some k)) ()) (OS m c (k.val + 3))
      ((OS_step m c (some (true, some k)) (by show k.val + 2 < 10; omega)).trans (by
        show OS m c (k.val + 2 + 1) + tallyAt _ () (if k.val < nC m c then NC else 0) = _
        rw [if_pos hk])) (W := W)
      (by rw [payload_cell m c (some (false, some k)), sM_chunk_set]; exact BI.Entails.refl _)
      (by
        rw [payload_cell m (peer c) (some (true, some k)), oM_chunk_set]
        show _ ⊢ oPts (peer c) (place m (peer (peer c)) k) (landed m (peer c))
        rw [peer_peer]
        exact Entails.of_eq (pointsTo_congr (landed_chunk m c k hk fd)))) $$ [Hs Ho HO HtS HtV]
  · isplitr; · iapply (inv_at m K (c, some (false, some k))); iexact HR
    isplitr; · iapply (inv_at m K (peer c, some (true, some k))); iexact HR
    isplitl [Hs]; · rw [sM_chunk_set]; unfold sPts; iexact Hs
    isplitl [Ho]; · rw [oM_chunk_set]; unfold oPts; iexact Ho
    isplitl [HO]; · iexact HO
    isplitl [HtS]; · iexact HtS
    isplitr; · iapply (reached_at m K (c, some (false, some k))); iexact HR
    isplitl [HtV]; · iexact HtV
    iapply (reached_at m K (peer c, some (true, some k))); iexact HR
  iintro ⟨Hc, HO⟩
  iapply Hk
  isplitl [Hc]; · iexact Hc
  iexists W; iexact HO

/-- One guarded send. -/
theorem send_step (K : Dev nD × Kind → ℕ) (c : Dev nD) (w : BitVec 32) (hw : k0_chk1 c w) (hws : w = sW m c) (k : Fin 8)
    {α : Type} {Q : α → sProp 𝕄} {P : TcProg F α} :
    iprop(records m K ∗ turn k.val (ready m c) (sent m c) ∗ ∃ W, owes (c : Thread nD τ) (OS m c (k.val + 2)) W)
      ⊢ iprop(((turn (k.val + 1) (ready m c) (sent m c) ∗ ∃ W, owes (c : Thread nD τ) (OS m c (k.val + 3)) W) -∗ wp frame (wpE (defs₀ (F := F)) 𝒱₀ (c : Thread nD τ) none) Set.univ P Q)
          -∗ wp frame (wpE (defs₀ (F := F)) 𝒱₀ (c : Thread nD τ) none) Set.univ (sendStep c w hw k P) Q) := by
  subst hws
  unfold sendStep
  rw [turn_before, turn_after]
  have hiff : condF k (sW m c) = 1#1 ↔ k.val < nC m c := by rw [sW_eq]; exact condF_iff k (sN_le m c)
  iintro ⟨#HR, ⟨Hk, Hrest⟩, HO⟩ Hcont
  by_cases hk : k.val < nC m c
  · rw [dif_pos (hiff.mpr hk)]
    iapply (wp_send_chunk m K c (devF k c) (devF_eq k c) k hk _ _ (by
      rw [show (place m c k).val = base c (nC m c) + k.val from slot_val c (nC_le m c) hk]
      have := offF_eq k c (sN_le m c) hk
      rw [← sW_eq] at this; exact this)) $$ [Hk HO]
    · isplitr; · iexact HR
      isplitl [Hk] <;> iassumption
    iintro ⟨Hs, HO⟩
    iapply Hcont
    isplitl [Hs Hrest]
    · isplitl [Hs] <;> iassumption
    iexact HO
  · rw [dif_neg (fun h => hk (hiff.mp h))]
    iapply Hcont
    unfold ready sent
    rw [if_neg hk]
    icases Hk with ⟨Hs, -, -, -⟩
    isplitl [Hs Hrest]
    · isplitl [Hs] <;> iassumption
    icases HO with ⟨%W, HO⟩
    iexists W
    have : OS m c (k.val + 2) = OS m c (k.val + 3) := (OS_step m c (some (true, some k)) (by show k.val + 2 < 10; omega)).trans (by
      show OS m c (k.val + 2 + 1) + tallyAt _ () (if k.val < nC m c then NC else 0) = _
      rw [if_neg hk, tallyAt_zero, add_zero])
    rw [this]
    iexact HO

/-! ## Waiting -/

/-- Before the wait for the peer's chunk `k`: the semaphore at its start, and the credit of what the peer owes it. -/
def waiting (c : Dev nD) (k : Fin 8) : sProp 𝕄 :=
  iprop(atPos ER (recvCell c (some k)) 0 ∅ 0 ∗ cred (tallyAt (recvCell c (some k)) () (owe m (peer c) (some (true, some k)))))

/-- The peer's chunk `k`, if it sends that many. -/
def gotten (c : Dev nD) (k : Fin 8) : sProp 𝕄 := if k.val < nC m (peer c) then oPts c (place m (peer c) k) (landed m c) else iprop(emp)

/-- After it: the semaphore at zero for good, and the chunk. -/
def got (c : Dev nD) (k : Fin 8) : sProp 𝕄 := iprop(semVal (recvCell c (some k)) 0 ∗ gotten m c k)

/-- One guarded wait for the peer's chunk. -/
theorem recv_step (K : Dev nD × Kind → ℕ) (c : Dev nD) (w : BitVec 32) (hw : w = BitVec.ofNat 32 (nC m (peer c))) (k : Fin 8)
    {α : Type} {Q : α → sProp 𝕄} {P : TcProg F α} :
    iprop(records m K ∗ turn k.val (waiting m c) (got m c) ∗ ∃ W, owes (c : Thread nD τ) 0 W)
      ⊢ iprop(((turn (k.val + 1) (waiting m c) (got m c) ∗ ∃ W, owes (c : Thread nD τ) 0 W) -∗ wp frame (wpE (defs₀ (F := F)) 𝒱₀ (c : Thread nD τ) none) Set.univ P Q)
          -∗ wp frame (wpE (defs₀ (F := F)) 𝒱₀ (c : Thread nD τ) none) Set.univ (recvStep w k P) Q) := by
  subst hw
  unfold recvStep
  rw [turn_before, turn_after]
  have hiff := moreW_iff (nC_le m (peer c)) k
  unfold waiting got gotten
  iintro ⟨#HR, ⟨⟨Hat, Hc⟩, Hrest⟩, ⟨%W, HO⟩⟩ Hcont
  by_cases hk : k.val < nC m (peer c)
  · rw [if_pos (hiff.mpr hk), if_pos hk]
    have hl : live m c (some (true, some k)) := hk
    rw [show owe m (peer c) (some (true, some k)) = NC from if_pos hk]
    iapply (Rounds.wp_wait_rest_token 𝒱₀ ER (rd m) (c : Thread nD τ) none (κ := K (c, some (true, some k)))
        (wpE_waitDma2_eq 𝒱₀ (c : Thread nD τ) none Set.univ) (Set.mem_univ _) () (O := 0) (W := W) (R := 0) (m := 0) (T := ∅)
        (by rw [Nat.zero_add]; exact (expect_cell m hl).symm)) $$ [Hc HO Hat]
    · isplitr; · iapply (inv_at m K (c, some (true, some k))); iexact HR
      isplitl [Hc]; · iexact Hc
      isplitl [HO]; · iexact HO
      isplitr; · rw [MayWait_zero]; iempintro
      iexact Hat
    iintro ⟨HO, Hat, -, Hpay⟩
    ihave Hp := (Entails.of_eq ((rest_cell m hl).trans (show pay m c (some (true, some k)) = oPts c (place m (peer c) k) (landed m c) from rfl))) $$ Hpay
    imod (Rounds.cell_close ER (rd m) (Set.mem_univ (K (c, some (true, some k)))) (fun h => h) (R := 0 + 1) (duties_later m (recvCell c (some k)))) $$ [Hat] with Hz
    · isplitr; · iapply (inv_at m K (c, some (true, some k))); iexact HR
      iexact Hat
    iapply Hcont
    isplitl [Hz Hp Hrest]
    · isplitl [Hz Hp]
      · isplitl [Hz]; · iexact Hz
        iexact Hp
      iexact Hrest
    iexists _; iexact HO
  · rw [if_neg (fun h => hk (hiff.mp h)), if_neg hk]
    imod (Rounds.cell_close ER (rd m) (Set.mem_univ (K (c, some (true, some k)))) (fun h => h) (R := 0) (fun r _ => duties_dead m (k := some (true, some k)) hk r)) $$ [Hat] with Hz
    · isplitr; · iapply (inv_at m K (c, some (true, some k))); iexact HR
      iexact Hat
    iapply Hcont
    isplitl [Hz Hrest]
    · isplitl [Hz]
      · isplitl [Hz]; · iexact Hz
        iempintro
      iexact Hrest
    iexists _; iexact HO

/-- Before the wait for one's own chunk `k` to have left, and after it. -/
def leaving (c : Dev nD) (k : Fin 8) : sProp 𝕄 := iprop(atPos ER (sendCell c (some k)) 0 ∅ 0 ∗ sent m c k)
def left (c : Dev nD) (k : Fin 8) : sProp 𝕄 := iprop(semVal (sendCell c (some k)) 0 ∗ sPts m c k)

/-- One guarded wait for one's own chunk to have left. -/
theorem left_step (K : Dev nD × Kind → ℕ) (c : Dev nD) (w : BitVec 32) (hw : w = BitVec.ofNat 32 (nC m c)) (k : Fin 8)
    {α : Type} {Q : α → sProp 𝕄} {P : TcProg F α} :
    iprop(records m K ∗ turn k.val (leaving m c) (left m c) ∗ ∃ W, owes (c : Thread nD τ) 0 W)
      ⊢ iprop(((turn (k.val + 1) (leaving m c) (left m c) ∗ ∃ W, owes (c : Thread nD τ) 0 W) -∗ wp frame (wpE (defs₀ (F := F)) 𝒱₀ (c : Thread nD τ) none) Set.univ P Q)
          -∗ wp frame (wpE (defs₀ (F := F)) 𝒱₀ (c : Thread nD τ) none) Set.univ (leftStep w k P) Q) := by
  subst hw
  unfold leftStep
  rw [turn_before, turn_after]
  have hiff := moreW_iff (nC_le m c) k
  unfold leaving left sent
  by_cases hk : k.val < nC m c
  · rw [if_pos (hiff.mpr hk), if_pos hk]
    iintro ⟨#HR, ⟨⟨Hat, Hc⟩, Hrest⟩, ⟨%W, HO⟩⟩ Hcont
    have hl : live m c (some (false, some k)) := hk
    iapply (Rounds.wp_wait_rest_token 𝒱₀ ER (rd m) (c : Thread nD τ) none (κ := K (c, some (false, some k)))
        (wpE_waitDma2_eq 𝒱₀ (c : Thread nD τ) none Set.univ) (Set.mem_univ _) () (O := 0) (W := W) (R := 0) (m := 0) (T := ∅)
        (by rw [Nat.zero_add]; exact (expect_cell m hl).symm)) $$ [Hc HO Hat]
    · isplitr; · iapply (inv_at m K (c, some (false, some k))); iexact HR
      isplitl [Hc]; · iexact Hc
      isplitl [HO]; · iexact HO
      isplitr; · rw [MayWait_zero]; iempintro
      iexact Hat
    iintro ⟨HO, Hat, -, Hpay⟩
    ihave Hp := (Entails.of_eq ((rest_cell m hl).trans (show pay m c (some (false, some k)) = sPts m c k from rfl))) $$ Hpay
    imod (Rounds.cell_close ER (rd m) (Set.mem_univ (K (c, some (false, some k)))) (fun h => h) (R := 0 + 1) (duties_later m (sendCell c (some k)))) $$ [Hat] with Hz
    · isplitr; · iapply (inv_at m K (c, some (false, some k))); iexact HR
      iexact Hat
    iapply Hcont
    isplitl [Hz Hp Hrest]
    · isplitl [Hz Hp]
      · isplitl [Hz]; · iexact Hz
        iexact Hp
      iexact Hrest
    iexists _; iexact HO
  · rw [if_neg (fun h => hk (hiff.mp h)), if_neg hk]
    iintro ⟨#HR, ⟨⟨Hat, Hc⟩, Hrest⟩, ⟨%W, HO⟩⟩ Hcont
    imod (Rounds.cell_close ER (rd m) (Set.mem_univ (K (c, some (false, some k)))) (fun h => h) (R := 0) (fun r _ => duties_dead m (k := some (false, some k)) hk r)) $$ [Hat] with Hz
    · isplitr; · iapply (inv_at m K (c, some (false, some k))); iexact HR
      iexact Hat
    iapply Hcont
    isplitl [Hz Hc Hrest]
    · isplitl [Hz Hc]
      · isplitl [Hz]; · iexact Hz
        iexact Hc
      iexact Hrest
    iexists _; iexact HO

end Cert.Exchange

end
-- ==== Proof.Programs.lean ====
module

public import proofs.«01_k».proof.Proof.Steps

@[expose] public section

noncomputable section

/-! # The kernel's parts as chains of guarded steps -/

namespace Cert.Exchange

open Cert.KernelIdeal Cert.KernelIdeal.Gen
open Idealize.ShloMosaic
open Idealize.ShloMosaic.TcCoe
open Idealize.SL.Sem

variable {F : FTy → Type} [FloatOps F]

abbrev hxM : xM.IsWhole := Memref.isWhole_whole cc0_stg0_0
abbrev hdM : dM.IsWhole := Memref.isWhole_whole cc0_stg1_0
abbrev hoM : oM.IsWhole := Memref.isWhole_whole cc0_stg2_0
abbrev hsM : sM.IsWhole := Memref.isWhole_whole cc0_scratch0
abbrev haM : aM.IsWhole := Memref.isWhole_whole cc0_scratch1

abbrev rRows : Rect S512x256 := Rect.unit (s := S512x256) ![0, 0] S512x256.size inb_S512x256_S512x256_0_0
abbrev rDest : Rect S1x512 := Rect.unit (s := S1x512) ![0, 0] S1x512.size inb_S1x512_S1x512_0_0

def loadRows {α : Type} (M : Memref sig .tc .vmem S512x256 .f32) (K : Vec F S512x256 .f32 → TcProg F α) : TcProg F α :=
  .op (.load M rRows.toLoadRect (View.loadsAt_vmem h_S512x256)) K
def loadDest {α : Type} (M : Memref sig .tc .vmem S1x512 .i32) (K : Vec F S1x512 .i32 → TcProg F α) : TcProg F α :=
  .op (.load M rDest.toLoadRect (View.loadsAt_vmem h_S1x512)) K
def storeRows {α : Type} (M : Memref sig .tc .vmem S512x256 .f32) (v : Vec F S512x256 .f32) (K : TcProg F α) : TcProg F α :=
  .op (.store M rRows v Finset.univ (View.stores_vmem_bits_univ h_S512x256 rfl) (.inl rfl)) fun _ => K

set_option maxHeartbeats 8000000 in
/-- Pack the departing rows, then send the first seven chunks. -/
theorem part3_eq (c : Dev nD) (v5 v8 v9 v46 : BitVec 32) (hw : k0_chk1 c v46) (v65 v71 : BitVec 32) (v77 : IVec S512x512 1) :
    k0_part3 (F := F) xM hxM dM hdM oM hoM sM hsM aM haM cc0_scratch2 cc0_scratch3 c v5 v8 v9 v46 hw v65 v71 v77
      = loadRows xM fun v80 => loadRows sM fun _ => storeRows sM (k0_pay7 v77 v80) <|
        sendStep c v46 hw 0 <| sendStep c v46 hw 1 <| sendStep c v46 hw 2 <| sendStep c v46 hw 3 <| sendStep c v46 hw 4 <|
        sendStep c v46 hw 5 <| sendStep c v46 hw 6 <| .ret ⟨Scalar.extui (Scalar.cmpi .sgt v65 7#32), 0#32⟩ := by
  rw [k0_part3_eq_skeleton]; rfl

/-- Send the last chunk, wait for the destinations both ways, count the rows to come. -/
theorem part4_eq (c : Dev nD) (v2 v5 v8 v9 : BitVec 32) (v28 : IVec S1x512 32) (v34 : IVec S512x512 32) (v38 : FVec F S1x512 .f32) (v46 : BitVec 32)
    (hw : k0_chk1 c v46) (v71 v108 c0 : BitVec 32) :
    k0_part4 (F := F) xM hxM dM hdM oM hoM sM hsM aM haM cc0_scratch2 cc0_scratch3 c v2 v5 v8 v9 v28 v34 v38 v46 hw v71 v108 c0
      = (sendStep c v46 hw 7 <| .op (.waitDma2 (sendS none) aM dM haM.wordExact hdM.wordExact) fun _ =>
          .op (.waitDma2 (recvS none) dM aM hdM.wordExact haM.wordExact) fun _ => loadDest aM fun v130 =>
          let v137 : BitVec 32 := extractAt ![0, 0, 0] (k0_pay10 (F := F) v2 v130) inpos_S1x1x1_p0_0_0
          let v139 : BitVec 32 := Scalar.subi (Scalar.addi v137 64#32) 1#32
          .ret ⟨k0_pay8 v2 v28, k0_pay9 v34 v38, Scalar.subi 512#32 v46, v137, v139, 64#32, Scalar.divsi v139 64#32,
            Scalar.subi (Scalar.extui (Scalar.cmpi .sgt v139 0#32)) (Scalar.extui (Scalar.cmpi .slt v139 0#32))⟩) := by
  rw [k0_part4_eq_skeleton]; rfl

/-- Pack the kept rows, wait for the peer's first five chunks. -/
theorem part5_eq (v2 v5 v8 v9 : BitVec 32) (v33 : IVec S512x512 32) (v111 : IVec S1x512 1) (v118 : IVec S1x512 32) (v137 : BitVec 32) (w : BitVec 32)
    (hw : w = nchW v137) :
    k0_part5 (F := F) xM hxM dM hdM oM hoM sM hsM aM haM cc0_scratch2 cc0_scratch3 v2 v5 v8 v9 v33 v111 v118 v137
        (Scalar.subi (Scalar.addi v137 64#32) 1#32) 64#32 (Scalar.divsi (Scalar.subi (Scalar.addi v137 64#32) 1#32) 64#32)
        (Scalar.subi (Scalar.extui (Scalar.cmpi .sgt (Scalar.subi (Scalar.addi v137 64#32) 1#32) 0#32)) (Scalar.extui (Scalar.cmpi .slt (Scalar.subi (Scalar.addi v137 64#32) 1#32) 0#32)))
      = loadRows xM fun v166 => recvStep w 0 <| recvStep w 1 <| recvStep w 2 <| recvStep w 3 <| recvStep w 4 <|
          .ret ⟨w, Scalar.muli v2 v137, k0_pay11 v2 v33 v111 v118 v137 v166⟩ := by
  subst hw
  rw [k0_part5_eq_skeleton]; rfl

/-- Wait for the peer's last three chunks, put the kept rows in place, wait for one's own first four to have left. -/
theorem part6_eq (v5 v8 v9 v65 v119 v156 v157 : BitVec 32) (v168 : FVec F S512x256 .f32) :
    k0_part6 (F := F) xM hxM dM hdM oM hoM sM hsM aM haM cc0_scratch2 cc0_scratch3 v5 v8 v9 v65 v119 v156 v157 v168
      = (recvStep v156 5 <| recvStep v156 6 <| recvStep v156 7 <| loadRows oM fun v200 => loadRows oM fun _ =>
          storeRows oM (k0_pay12 v119 v157 v168 v200) <|
          leftStep v65 0 <| leftStep v65 1 <| leftStep v65 2 <| leftStep v65 3 <| .ret ⟨⟩) := by
  rw [k0_part6_eq_skeleton]; rfl

set_option maxHeartbeats 1000000 in
/-- Signal the peer, wait for its signal, send it the destinations, read one's own. -/
theorem part1_eq :
    k0_part1 (F := F) xM hxM dM hdM oM hoM sM hsM aM haM cc0_scratch2 cc0_scratch3
      = .op .deviceId fun d0 =>
        .op (.semSignal ((⟨k0_dev1 d0, k0_dev1_lt d0⟩ : Dev nD), .tc) barS (1#32 : BitVec 32).toInt) fun _ =>
        .op (.semWait barS (1#32 : BitVec 32).toInt) fun _ =>
        .op (.enqueueDma dM (.remote (Dev.tc (⟨k0_dev2 d0, k0_dev2_lt d0⟩ : Dev nD)) aM (.dma (sendS none))) (.dma (recvS none)) hdM.wordExact haM.wordExact ⟨⟨rfl, Or.inl rfl⟩, trivial⟩) fun _ =>
        loadDest dM fun v27 => .ret ⟨d0, xW d0, Scalar.remsi (Scalar.divsi (Dev.word d0) 2#32) 2#32, Scalar.remsi (Scalar.divsi (Dev.word d0) 1#32) 2#32,
          Scalar.subi 1#32 (xW d0), k0_pay1 (F := F) v27, k0_pay2 (F := F) d0 v27, k0_pay3 d0 v27, iota0⟩ := by
  rw [k0_part1_eq_skeleton]; rfl

set_option maxHeartbeats 1000000 in
/-- Count the departing rows and place them, under the bound on where the chunks go. -/
theorem part2_eq (c : Dev nD) (v2 : BitVec 32) (v30 : IVec S1x512 1) (v32 : FVec F S1x512 .f32) (v33 : IVec S512x512 32) :
    k0_part2 (F := F) xM hxM dM hdM oM hoM sM hsM aM haM cc0_scratch2 cc0_scratch3 c v2 v30 v32 v33
      = (let v46 : BitVec 32 := extractAt ![0, 0, 0] (k0_pay5 v30) inpos_S1x1x1_p0_0_0
        .op (.assume (k0_chk1 c v46) (k0_chk1.dec c v46)) fun h =>
        .ret ⟨iota1, k0_pay4 v32 v33, v46, h.down, nchW v46, Scalar.muli v2 (Scalar.subi 512#32 (Scalar.muli (nchW v46) 64#32)), k0_pay6 v2 v30 v32 v33⟩) := by
  rw [k0_part2_eq_skeleton]; rfl

/-- Wait for one's own last four chunks to have left. -/
def tail (w : BitVec 32) : TcProg F PUnit := leftStep w 4 <| leftStep w 5 <| leftStep w 6 <| leftStep w 7 <| .ret ⟨⟩

/-- The kernel is its six parts and the tail. -/
theorem body_eq :
    cc0_body (F := F) xM hxM dM hdM oM hoM sM hsM aM haM cc0_scratch2 cc0_scratch3
      = (k0_part1 (F := F) xM hxM dM hdM oM hoM sM hsM aM haM cc0_scratch2 cc0_scratch3 >>= fun p1 =>
        k0_part2 (F := F) xM hxM dM hdM oM hoM sM hsM aM haM cc0_scratch2 cc0_scratch3 p1.1 p1.2.1 p1.2.2.2.2.2.2.1 p1.2.2.2.2.2.2.2.1 p1.2.2.2.2.2.2.2.2 >>= fun p2 =>
        k0_part3 (F := F) xM hxM dM hdM oM hoM sM hsM aM haM cc0_scratch2 cc0_scratch3 p1.1 p1.2.2.1 p1.2.2.2.1 p1.2.2.2.2.1 p2.2.2.1 p2.2.2.2.1 p2.2.2.2.2.1 p2.2.2.2.2.2.1 p2.2.2.2.2.2.2 >>= fun p3 =>
        k0_part4 (F := F) xM hxM dM hdM oM hoM sM hsM aM haM cc0_scratch2 cc0_scratch3 p1.1 p1.2.1 p1.2.2.1 p1.2.2.2.1 p1.2.2.2.2.1 p1.2.2.2.2.2.1 p2.1 p2.2.1 p2.2.2.1 p2.2.2.2.1 p2.2.2.2.2.2.1 p3.1 p3.2 >>= fun p4 =>
        k0_part5 (F := F) xM hxM dM hdM oM hoM sM hsM aM haM cc0_scratch2 cc0_scratch3 p1.2.1 p1.2.2.1 p1.2.2.2.1 p1.2.2.2.2.1 p1.2.2.2.2.2.2.2.2 p4.1 p4.2.1 p4.2.2.2.1 p4.2.2.2.2.1 p4.2.2.2.2.2.1 p4.2.2.2.2.2.2.1 p4.2.2.2.2.2.2.2 >>= fun p5 =>
        k0_part6 (F := F) xM hxM dM hdM oM hoM sM hsM aM haM cc0_scratch2 cc0_scratch3 p1.2.2.1 p1.2.2.2.1 p1.2.2.2.2.1 p2.2.2.2.2.1 p4.2.2.1 p5.1 p5.2.1 p5.2.2 >>= fun _ =>
        tail p2.2.2.2.2.1) := by
  rw [cc0_body_eq_skeleton]; rfl

end Cert.Exchange

end
-- ==== Proof.Chunks.lean ====
module

public import proofs.«01_k».proof.Proof.Steps

@[expose] public section

noncomputable section

/-! # A 512-row memory held by its chunks

The result is cut into eight chunks: those the peer writes are lent to it, the others kept; at the end the landed and
the kept ones are joined again. The packed rows are cut and joined in the same way. -/

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ)

/-- Device `c`'s whole result buffer, rows buffer, packed rows. -/
def oWhole (c : Dev nD) (f : (cc0_stg2_0 : Ref sig .tc).ty.Contents (Elt F)) : sProp 𝕄 := ((c : Thread nD τ).loc cc0_stg2_0) ↦{fullShare} f
def xWhole (c : Dev nD) : sProp 𝕄 := ((c : Thread nD τ).loc cc0_stg0_0) ↦{fullShare} xC m c
def sWhole (c : Dev nD) (f : (cc0_scratch0 : Ref sig .tc).ty.Contents (Elt F)) : sProp 𝕄 := ((c : Thread nD τ).loc cc0_scratch0) ↦{fullShare} f

theorem oWhole_chunks (c : Dev nD) (f : (cc0_stg2_0 : Ref sig .tc).ty.Contents (Elt F)) :
    (oWhole c f : sProp 𝕄) = bigSep Finset.univ fun k : Fin 8 => oPts c k f := by
  unfold oWhole oPts
  exact Ring.pointsTo_blocks (ℓ := (c : Thread nD τ).loc cc0_stg2_0) (fun k : Fin 8 => (chunkR k).set) chunk_disjoint chunk_cover f

theorem sWhole_chunks (c : Dev nD) : (sWhole c (sC m c) : sProp 𝕄) = bigSep Finset.univ fun k : Fin 8 => sPts m c k := by
  unfold sWhole sPts
  exact Ring.pointsTo_blocks (ℓ := (c : Thread nD τ).loc cc0_scratch0) (fun k : Fin 8 => (chunkR k).set) chunk_disjoint chunk_cover (sC m c)

/-- A chunk of the result the peer does not write, at contents `g`. -/
def kept (c : Dev nD) (g : (cc0_stg2_0 : Ref sig .tc).ty.Contents (Elt F)) (k : Fin 8) : sProp 𝕄 :=
  if k.val < nC m (peer c) then iprop(emp) else oPts c (place m (peer c) k) g

/-- The result is the chunks lent to the peer and the chunks kept. -/
theorem oWhole_split (c : Dev nD) (g : (cc0_stg2_0 : Ref sig .tc).ty.Contents (Elt F)) :
    (oWhole c g : sProp 𝕄) ⊢ iprop((bigSep Finset.univ fun k : Fin 8 => lent m (peer c) k) ∗ bigSep Finset.univ fun k : Fin 8 => kept m c g k) := by
  rw [oWhole_chunks, bigSep_univ_equiv (slotEquiv (peer c) (nC m (peer c))) (fun k : Fin 8 => oPts c k g), ← bigSep_sep']
  refine bigSep_mono fun k _ => ?_
  show oPts c (place m (peer c) k) g ⊢ _
  unfold lent kept
  by_cases h : k.val < nC m (peer c)
  · rw [if_pos h, if_pos h, peer_peer]
    iintro H
    isplitl [H]; · iexists g; iexact H
    iempintro
  · rw [if_neg h, if_neg h]
    iintro H
    isplitr; · iempintro
    iexact H

/-- Contents that hold the peer's rows on every chunk it sent. -/
def Received (c : Dev nD) (g : (cc0_stg2_0 : Ref sig .tc).ty.Contents (Elt F)) : Prop :=
  ∀ k : Fin 8, k.val < nC m (peer c) → ∀ i ∈ (chunkR (place m (peer c) k)).set, g i = landed m c i

/-- The landed and the kept chunks make up the result, holding the peer's rows where they landed. -/
theorem oWhole_join (c : Dev nD) (g : (cc0_stg2_0 : Ref sig .tc).ty.Contents (Elt F)) :
    iprop((bigSep Finset.univ fun k : Fin 8 => gotten m c k) ∗ bigSep Finset.univ fun k : Fin 8 => kept m c g k)
      ⊢ (iprop(∃ g', ⌜Received m c g'⌝ ∗ oWhole c g') : sProp 𝕄) := by
  rw [← bigSep_sep']
  have h1 : (bigSep Finset.univ fun k : Fin 8 => iprop(gotten m c k ∗ kept m c g k) : sProp 𝕄)
      ⊢ bigSep Finset.univ fun k : Fin 8 => oPts c (place m (peer c) k) (if k.val < nC m (peer c) then landed m c else g) := by
    refine bigSep_mono fun k _ => ?_
    unfold gotten kept
    by_cases h : k.val < nC m (peer c)
    · rw [if_pos h, if_pos h, if_pos h]
      show iprop(oPts c (place m (peer c) k) (landed m c) ∗ emp) ⊢ (oPts c (place m (peer c) k) (landed m c) : sProp 𝕄)
      iintro ⟨H, -⟩
      iexact H
    · rw [if_neg h, if_neg h, if_neg h]
      show iprop(emp ∗ oPts c (place m (peer c) k) g) ⊢ (oPts c (place m (peer c) k) g : sProp 𝕄)
      iintro ⟨-, H⟩
      iexact H
  refine h1.trans ?_
  unfold oPts
  have hu : Finset.univ.biUnion (fun k : Fin 8 => (chunkR (place m (peer c) k)).set) = Finset.univ := by
    refine Finset.eq_univ_iff_forall.mpr fun i => ?_
    obtain ⟨k, -, hk⟩ := Finset.mem_biUnion.mp (chunk_cover ▸ Finset.mem_univ i)
    refine Finset.mem_biUnion.mpr ⟨(slotEquiv (peer c) (nC m (peer c))).symm k, Finset.mem_univ _, ?_⟩
    have : place m (peer c) ((slotEquiv (peer c) (nC m (peer c))).symm k) = k := (slotEquiv (peer c) (nC m (peer c))).apply_symm_apply k
    rw [this]; exact hk
  refine (pointsTo_biUnion_join (ℓ := (c : Thread nD τ).loc cc0_stg2_0) Finset.univ (fun k : Fin 8 => (chunkR (place m (peer c) k)).set)
    (fun k => if k.val < nC m (peer c) then landed m c else g) g
    (fun k _ k' _ hne => chunk_disjoint _ _ fun h => hne ((slotEquiv (peer c) (nC m (peer c))).injective h))).trans ?_
  rw [hu]
  unfold oWhole
  iintro ⟨%g', %hg', H⟩
  iexists g'
  isplitr
  · ipureintro
    intro k hk i hi
    have := hg' k (Finset.mem_univ _) i hi
    rw [if_pos hk] at this
    exact this
  iexact H

/-- The destinations held whole are two halves. -/
theorem dWhole_halves (c : Dev nD) : (dHalf m c fullShare : sProp 𝕄) ⊣⊢ iprop(dHalf m c fullShare.left ∗ dHalf m c fullShare.right) :=
  pointsTo_share (PosShare.mem_left_op_right fullShare)

end Cert.Exchange

end
-- ==== Proof.Opening.lean ====
module

public import proofs.«01_k».proof.Proof.Programs
public import proofs.«01_k».proof.Proof.Chunks

@[expose] public section

noncomputable section

/-! # The opening of the run

The signal to the peer and the wait for its signal, the destinations sent to the peer, and the loads and stores of
whole memories. -/

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ)

/-- What must be given for device `c` to run `P` to `Q`. -/
abbrev runs {α : Type} (c : Dev nD) (P : TcProg F α) (Q : α → sProp 𝕄) : sProp 𝕄 :=
  wp frame (wpE (defs₀ (F := F)) 𝒱₀ (c : Thread nD τ) none) Set.univ P Q

theorem off_zero : (![0, 0] : Fin 2 → ℕ) = fun _ => 0 := by funext a; fin_cases a <;> rfl

/-! ## Whole memories -/

variable {α : Type}

theorem load_x (c : Dev nD) (K : Vec F S512x256 .f32 → TcProg F α) (Q : α → sProp 𝕄) :
    xWhole m c ⊢ iprop((xWhole m c -∗ runs c (K (xC m c)) Q) -∗ runs c (loadRows xM K) Q) := by
  unfold xWhole loadRows
  have h := wp_load (Γ := .empty) (defs := defs₀ (F := F)) (E := Set.univ) 𝒱₀ (c : Thread nD τ) none (m := xM) (r := rRows.toLoadRect) (hl := View.loadsAt_vmem h_S512x256) (k := K) (Q := Q)
    (S := Finset.univ) (q := fullShare) (f := xC m c) (Finset.subset_univ _)
  rw [show xM.view.readAt (Elt F) rRows.toLoadRect (xC m c) = (xC m c) from Memref.readAt_unit_zero (Elt F) cc0_stg0_0 off_zero _ (xC m c)] at h
  exact h

theorem load_s (c : Dev nD) (f : (cc0_scratch0 : Ref sig .tc).ty.Contents (Elt F)) (K : Vec F S512x256 .f32 → TcProg F α) (Q : α → sProp 𝕄) :
    sWhole c f ⊢ iprop((sWhole c f -∗ runs c (K f) Q) -∗ runs c (loadRows sM K) Q) := by
  unfold sWhole loadRows
  have h := wp_load (Γ := .empty) (defs := defs₀ (F := F)) (E := Set.univ) 𝒱₀ (c : Thread nD τ) none (m := sM) (r := rRows.toLoadRect) (hl := View.loadsAt_vmem h_S512x256) (k := K) (Q := Q)
    (S := Finset.univ) (q := fullShare) (f := f) (Finset.subset_univ _)
  rw [show sM.view.readAt (Elt F) rRows.toLoadRect f = f from Memref.readAt_unit_zero (Elt F) cc0_scratch0 off_zero _ f] at h
  exact h

theorem load_o (c : Dev nD) (f : (cc0_stg2_0 : Ref sig .tc).ty.Contents (Elt F)) (K : Vec F S512x256 .f32 → TcProg F α) (Q : α → sProp 𝕄) :
    oWhole c f ⊢ iprop((oWhole c f -∗ runs c (K f) Q) -∗ runs c (loadRows oM K) Q) := by
  unfold oWhole loadRows
  have h := wp_load (Γ := .empty) (defs := defs₀ (F := F)) (E := Set.univ) 𝒱₀ (c : Thread nD τ) none (m := oM) (r := rRows.toLoadRect) (hl := View.loadsAt_vmem h_S512x256) (k := K) (Q := Q)
    (S := Finset.univ) (q := fullShare) (f := f) (Finset.subset_univ _)
  rw [show oM.view.readAt (Elt F) rRows.toLoadRect f = f from Memref.readAt_unit_zero (Elt F) cc0_stg2_0 off_zero _ f] at h
  exact h

theorem load_a (c : Dev nD) (f : (cc0_scratch1 : Ref sig .tc).ty.Contents (Elt F)) (K : Vec F S1x512 .i32 → TcProg F α) (Q : α → sProp 𝕄) :
    aPts c f ⊢ iprop((aPts c f -∗ runs c (K f) Q) -∗ runs c (loadDest aM K) Q) := by
  unfold aPts loadDest
  have h := wp_load (Γ := .empty) (defs := defs₀ (F := F)) (E := Set.univ) 𝒱₀ (c : Thread nD τ) none (m := aM) (r := rDest.toLoadRect) (hl := View.loadsAt_vmem h_S1x512) (k := K) (Q := Q)
    (S := Finset.univ) (q := fullShare) (f := f) (Finset.subset_univ _)
  rw [show aM.view.readAt (Elt F) rDest.toLoadRect f = f from Memref.readAt_unit_zero (Elt F) cc0_scratch1 off_zero _ f] at h
  exact h

theorem load_d (c : Dev nD) (q : PosShare TreeShare) (K : Vec F S1x512 .i32 → TcProg F α) (Q : α → sProp 𝕄) :
    dHalf m c q ⊢ iprop((dHalf m c q -∗ runs c (K (dC m c)) Q) -∗ runs c (loadDest dM K) Q) := by
  unfold dHalf loadDest
  have h := wp_load (Γ := .empty) (defs := defs₀ (F := F)) (E := Set.univ) 𝒱₀ (c : Thread nD τ) none (m := dM) (r := rDest.toLoadRect) (hl := View.loadsAt_vmem h_S1x512) (k := K) (Q := Q)
    (S := Finset.univ) (q := q) (f := dC m c) (Finset.subset_univ _)
  rw [show dM.view.readAt (Elt F) rDest.toLoadRect (dC m c) = (dC m c) from Memref.readAt_unit_zero (Elt F) cc0_stg1_0 off_zero _ (dC m c)] at h
  exact h

theorem store_s (c : Dev nD) (f : (cc0_scratch0 : Ref sig .tc).ty.Contents (Elt F)) (v : Vec F S512x256 .f32) (K : TcProg F α) (Q : α → sProp 𝕄) :
    sWhole c f ⊢ iprop((sWhole c v -∗ runs c K Q) -∗ runs c (storeRows sM v K) Q) := by
  unfold sWhole storeRows
  have h := wp_store (Γ := .empty) (defs := defs₀ (F := F)) (E := Set.univ) 𝒱₀ (c : Thread nD τ) none (m := sM) (r := rRows) (w := v) (Mk := Finset.univ)
    (hx := View.stores_vmem_bits_univ h_S512x256 rfl) (hm := .inl rfl) (k := fun _ => K) (Q := Q)
    (S := Finset.univ) (f := f) (Finset.subset_univ _)
  rw [show (sM.access rRows : View sig .tc _ _ _).write (Elt F) f v Finset.univ = v from Memref.write_access_unit_zero_univ (Elt F) cc0_scratch0 off_zero _ f v] at h
  exact h

theorem store_o (c : Dev nD) (f : (cc0_stg2_0 : Ref sig .tc).ty.Contents (Elt F)) (v : Vec F S512x256 .f32) (K : TcProg F α) (Q : α → sProp 𝕄) :
    oWhole c f ⊢ iprop((oWhole c v -∗ runs c K Q) -∗ runs c (storeRows oM v K) Q) := by
  unfold oWhole storeRows
  have h := wp_store (Γ := .empty) (defs := defs₀ (F := F)) (E := Set.univ) 𝒱₀ (c : Thread nD τ) none (m := oM) (r := rRows) (w := v) (Mk := Finset.univ)
    (hx := View.stores_vmem_bits_univ h_S512x256 rfl) (hm := .inl rfl) (k := fun _ => K) (Q := Q)
    (S := Finset.univ) (f := f) (Finset.subset_univ _)
  rw [show (oM.access rRows : View sig .tc _ _ _).write (Elt F) f v Finset.univ = v from Memref.write_access_unit_zero_univ (Elt F) cc0_stg2_0 off_zero _ f v] at h
  exact h

/-! ## The destinations sent -/

/-- The peer's memory for the destinations, after the whole of them is written. -/
theorem dest_landed (c : Dev nD) (fd : (cc0_scratch1 : Ref sig .tc).ty.Contents (Elt F)) :
    aM.view.write (Elt F) fd (dM.view.read (Elt F) (dC m c)) Finset.univ = dC m c := by
  rw [View.read_whole]
  exact View.write_whole_univ _ _ _

theorem send_dest (K : Dev nD × Kind → ℕ) (c n : Dev nD) (hn : n = peer c) (Q : α → sProp 𝕄) (P : TcProg F α) :
    iprop(records m K ∗ dHalf m c fullShare.left ∗ (∃ f, aPts (peer c) f) ∗ dutyTok ER (sendCell c none) 0 () ∗ dutyTok ER (recvCell (peer c) none) 0 ()
        ∗ ∃ W, owes (c : Thread nD τ) (OS m c 1) W)
      ⊢ iprop(((cred (tallyAt (sendCell c none) () ND) ∗ ∃ W, owes (c : Thread nD τ) (OS m c 2) W) -∗ runs c P Q)
          -∗ runs c (.op (.enqueueDma dM (.remote (Dev.tc n) aM (.dma (sendS none))) (.dma (recvS none)) hdM.wordExact haM.wordExact ⟨⟨rfl, Or.inl rfl⟩, trivial⟩) fun _ => P) Q) := by
  subst hn
  iintro ⟨#HR, Hd, ⟨%fd, Ha⟩, HtS, HtV, ⟨%W, HO⟩⟩ Hk
  iapply (Rounds.wp_send_pointsTo 𝒱₀ ER (rd m) (c : Thread nD τ) none (c' := (peer c : Thread nD τ)) (src := dM) (dst := aM)
      (κ₁ := K (c, some (false, none))) (κ₂ := K (peer c, some (true, none)))
      (r₁ := 0) (r₂ := 0) (d₁ := ()) (d₂ := ()) (q := fullShare.left) (fs := dC m c) (fd := fd)
      (by rw [duties_live m (c := c) (k := some (false, none)) trivial]; exact Finset.mem_singleton_self _)
      (by rw [duties_live m (c := peer c) (k := some (true, none)) trivial]; exact Finset.mem_singleton_self _)
      () () ND rfl (amount_cell m c (some (false, none)) ()) (amount_cell m (peer c) (some (true, none)) ()) (OS m c 2)
      (OS_step m c (some (true, none)) (by decide)) (W := W)
      (by rw [payload_cell m c (some (false, none)), View.set_whole]; exact BI.Entails.refl _)
      (by
        rw [payload_cell m (peer c) (some (true, none)), View.set_whole, dest_landed m c fd]
        show _ ⊢ aPts (peer c) (dC m (peer (peer c)))
        rw [peer_peer]
        exact BI.Entails.refl _)) $$ [Hd Ha HO HtS HtV]
  · isplitr; · iapply (inv_at m K (c, some (false, none))); iexact HR
    isplitr; · iapply (inv_at m K (peer c, some (true, none))); iexact HR
    isplitl [Hd]; · rw [View.set_whole]; unfold dHalf; iexact Hd
    isplitl [Ha]; · rw [View.set_whole]; unfold aPts; iexact Ha
    isplitl [HO]; · iexact HO
    isplitl [HtS]; · iexact HtS
    isplitr; · iapply (reached_at m K (c, some (false, none))); iexact HR
    isplitl [HtV]; · iexact HtV
    iapply (reached_at m K (peer c, some (true, none))); iexact HR
  iintro ⟨Hc, HO⟩
  iapply Hk
  isplitl [Hc]; · iexact Hc
  iexists W; iexact HO

/-! ## A wait for one payment -/

/-- After a wait for the one payment of a semaphore: nothing owed there, its payload, and the semaphore at zero for good. -/
theorem close_paid (K : Dev nD × Kind → ℕ) (c : Dev nD) (k : Kind) {P : TcProg F α} (Q : α → sProp 𝕄) :
    iprop(records m K ∗ atPos ER (kcell (c, k)) (0 + 1) ∅ 0) ⊢ iprop((semVal (kcell (c, k)) 0 -∗ runs c P Q) -∗ runs c P Q) := by
  iintro ⟨#HR, Hat⟩ Hk
  imod (Rounds.cell_close ER (rd m) (Set.mem_univ (K (c, k))) (fun h => h) (R := 0 + 1) (duties_later m (kcell (c, k)))) $$ [Hat] with Hz
  · isplitr; · iapply (inv_at m K (c, k)); iexact HR
    iexact Hat
  iapply Hk
  iexact Hz

/-- A wait for a transfer of the destinations, at either end. -/
theorem wait_dest (K : Dev nD × Kind → ℕ) (c : Dev nD) (b : Bool) {s s' : Memref sig .tc .vmem S1x512 .i32} {h : s.view.WordExact} {h' : s'.view.WordExact}
    (hN : s'.view.dmaCredit = ND) (Q : α → sProp 𝕄) (P : TcProg F α) (sem : DmaSem sig) (hsem : csem (some (b, none)) = .dma sem) :
    iprop(records m K ∗ atPos ER (kcell (c, some (b, none))) 0 ∅ 0 ∗ cred (tallyAt (kcell (c, some (b, none))) () ND) ∗ ∃ W, owes (c : Thread nD τ) 0 W)
      ⊢ iprop(((semVal (kcell (c, some (b, none))) 0 ∗ pay m c (some (b, none)) ∗ ∃ W, owes (c : Thread nD τ) 0 W) -∗ runs c P Q)
          -∗ runs c (.op (.waitDma2 sem s s' h h') fun _ => P) Q) := by
  have hl : live m c (some (b, none)) := by cases b <;> trivial
  have hk : kcell (c, some (b, none)) = ((c : Thread nD τ), SemLoc.dma sem) := by show ((c : Thread nD τ), csem _) = _; rw [hsem]
  have hamt : amt (some (b, none)) = ND := by cases b <;> rfl
  iintro ⟨#HR, Hat, Hc, ⟨%W, HO⟩⟩ Hk
  ihave Hinv := (inv_at m K (c, some (b, none))) $$ HR
  ihave Hpos := (Entails.of_eq (congrArg (fun g => (atPos ER g 0 ∅ 0 : sProp 𝕄)) hk)) $$ Hat
  ihave Hcr := (Entails.of_eq (congrArg (fun g => (cred (tallyAt g () ND) : sProp 𝕄)) hk)) $$ Hc
  ihave Hin := (Entails.of_eq (congrArg (fun g => (cellInv ER (rd m) (K (c, some (b, none))) g : sProp 𝕄)) hk)) $$ Hinv
  iapply (Rounds.wp_wait_rest_token 𝒱₀ ER (rd m) (c : Thread nD τ) none (κ := K (c, some (b, none)))
      (wpE_waitDma2_eq 𝒱₀ (c : Thread nD τ) none Set.univ) (Set.mem_univ _) () (O := 0) (W := W) (R := 0) (m := 0) (T := ∅)
      (by rw [Nat.zero_add, ← hk, expect_cell m hl, hamt])) $$ [Hcr HO Hpos Hin]
  · isplitl [Hin]; · iexact Hin
    isplitl [Hcr]; · rw [hN]; iexact Hcr
    isplitl [HO]; · iexact HO
    isplitr; · rw [MayWait_zero]; iempintro
    iexact Hpos
  iintro ⟨HO, Hat, -, Hpay⟩
  ihave Hp := (Entails.of_eq ((congrArg (fun g => (bigSep ((rd m).duties g 0 \ ∅) (fun d => (rd m).payload g 0 d) : sProp 𝕄)) hk.symm).trans (rest_cell m hl))) $$ Hpay
  ihave Hat' := (Entails.of_eq (congrArg (fun g => (atPos ER g (0 + 1) ∅ 0 : sProp 𝕄)) hk.symm)) $$ Hat
  iapply (close_paid m K c (some (b, none)) Q) $$ [Hat']
  · isplitr; · iexact HR
    iexact Hat'
  iintro Hz
  iapply Hk
  isplitl [Hz]; · iexact Hz
  isplitl [Hp]; · iexact Hp
  iexists _; iexact HO

end Cert.Exchange

end
-- ==== Proof.Body.lean ====
module

public import proofs.«01_k».proof.Proof.Opening

@[expose] public section

noncomputable section

/-! # The kernel's run on one device

From the rights a device starts with, the kernel runs to its end, every semaphore back at zero and its result made of
the rows it kept and the rows its peer sent. -/

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ)

/-- The running count of departing rows, as floats. -/
def cumF (c : Dev nD) : FVec F S1x512 .f32 := k0_pay4 (k0_pay3 c (dC m c)) iota0

/-- The rows device `c` keeps, each at its place in the result. -/
def keptRows (c : Dev nD) : FVec F S512x256 .f32 :=
  k0_pay11 (xW c) iota0 (k0_pay8 (xW c) (k0_pay1 (F := F) (dC m c))) (k0_pay9 iota1 (cumF m c)) (sW m (peer c)) (xC m c)

/-- Device `c`'s result, from what its result buffer held before the kept rows are put in place. -/
def result (c : Dev nD) (g : (cc0_stg2_0 : Ref sig .tc).ty.Contents (Elt F)) : (cc0_stg2_0 : Ref sig .tc).ty.Contents (Elt F) :=
  k0_pay12 (Scalar.subi 512#32 (sW m c)) (Scalar.muli (xW c) (sW m (peer c))) (keptRows m c) g

/-- Device `c` counts in its peer's destinations the rows its peer counts as departing. -/
def Agree (c : Dev nD) : Prop :=
  extractAt ![0, 0, 0] (k0_pay10 (F := F) (xW c) (dC m (peer c))) inpos_S1x1x1_p0_0_0 = sW m (peer c)

/-! ## The parts -/

theorem chk_at (c : Dev nD) : k0_chk1 c (sW m c) := by
  have h := chk_ok c (sN_le m c)
  rw [← sW_eq] at h
  exact h

theorem run_ret {α : Type} (c : Dev nD) (a : α) (Q : α → sProp 𝕄) : Q a ⊢ runs c (.ret a) Q := by
  unfold runs
  rw [wp_ret]
  iintro H
  imodintro
  iexact H

theorem bar_pay (c : Dev nD) :
    iprop((∃ f, aPts c f) ∗ bigSep Finset.univ fun k : Fin 8 => lent m (peer c) k) ⊢ ((rd m).payload (kcell (peer c, none)) 0 () : sProp 𝕄) := by
  rw [payload_cell m (peer c) none]
  show _ ⊢ iprop((∃ f, aPts (peer (peer c)) f) ∗ bigSep Finset.univ fun k : Fin 8 => lent m (peer c) k)
  rw [peer_peer]

set_option maxHeartbeats 1000000 in
theorem run_part1 (K : Dev nD × Kind → ℕ) (c : Dev nD) (g : (cc0_stg2_0 : Ref sig .tc).ty.Contents (Elt F))
    (Q : (Σ' (d0 : Dev nD) (v2 : BitVec 32) (v5 : BitVec 32) (v8 : BitVec 32) (v9 : BitVec 32) (v28 : IVec S1x512 32) (v30 : IVec S1x512 1) (v32 : FVec F S1x512 .f32), IVec S512x512 32) → sProp 𝕄) :
    iprop(records m K ∗ levAts L lv ∗ (atPos ER (barCell c) 0 ∅ 0 ∗ cred (tallyAt (barCell c) () 1) ∗ dutyTok ER (barCell (peer c)) 0 ()
          ∗ dutyTok ER (sendCell c none) 0 () ∗ dutyTok ER (recvCell (peer c) none) 0 ())
        ∗ dHalf m c fullShare ∗ (∃ f, aPts c f) ∗ oWhole c g ∗ ∃ W, owes (c : Thread nD τ) (OS m c 0) W)
      ⊢ iprop((∀ v5 v8, (semVal (barCell c) 0 ∗ cred (tallyAt (sendCell c none) () ND) ∗ dHalf m c fullShare.right
            ∗ (bigSep Finset.univ fun k : Fin 8 => lent m c k) ∗ (bigSep Finset.univ fun k : Fin 8 => kept m c g k)
            ∗ ∃ W, owes (c : Thread nD τ) (OS m c 2) W)
          -∗ Q ⟨c, xW c, v5, v8, Scalar.subi 1#32 (xW c), k0_pay1 (F := F) (dC m c), k0_pay2 (F := F) c (dC m c), k0_pay3 c (dC m c), iota0⟩)
        -∗ runs c (k0_part1 (F := F) xM hxM dM hdM oM hoM sM hsM aM haM cc0_scratch2 cc0_scratch3) Q) := by
  rw [part1_eq]
  unfold runs
  rw [wp_deviceId, dev1_eq c, dev2_eq c]
  iintro ⟨#HR, #Hlev, ⟨HatB, HcB, HtB, HtS, HtV⟩, Hd, Ha, Ho, ⟨%W, HO⟩⟩ Hk
  ihave Hsp := (oWhole_split m c g) $$ Ho
  icases Hsp with ⟨Hlent, Hkept⟩
  ihave Hdd := (dWhole_halves m c).1 $$ Hd
  icases Hdd with ⟨HdL, HdR⟩
  iapply (Rounds.wp_signal 𝒱₀ ER (rd m) (c : Thread nD τ) none (dst := (peer c : Thread nD τ)) (κ := K (peer c, none))
      (d := ()) (by rw [duties_live m (c := peer c) (k := none) trivial]; exact Finset.mem_singleton_self _)
      (k' := 1) (amount_cell m (peer c) none ()) () (OS m c 1) (OS_step m c none (by decide))) $$ [HO HtB Ha Hlent]
  · isplitr; · iapply (inv_at m K (peer c, none)); iexact HR
    isplitl [HO]; · iexact HO
    isplitl [HtB]; · iexact HtB
    isplitl [Ha Hlent]
    · iapply (bar_pay m c)
      isplitl [Ha] <;> iassumption
    iapply (reached_at m K (peer c, none)); iexact HR
  iintro HO
  iapply (Rounds.wp_wait_rest_token 𝒱₀ ER (rd m) (c : Thread nD τ) none (κ := K (c, none))
      (wpE_semWait_eq 𝒱₀ (c : Thread nD τ) none Set.univ) (Set.mem_univ _) () (O := OS m c 1) (W := W) (R := 0) (m := 0) (T := ∅)
      (by rw [expect_cell m (c := c) (k := none) trivial]; decide)) $$ [HcB HO HatB]
  · isplitr; · iapply (inv_at m K (c, none)); iexact HR
    isplitl [HcB]; · iexact HcB
    isplitl [HO]; · iexact HO
    isplitr; · iapply (mayWait_bar m c); iexact Hlev
    iexact HatB
  iintro ⟨HO, HatB, -, Hpay⟩
  ihave Hp := (Entails.of_eq ((rest_cell m (c := c) (k := none) trivial).trans
    (show pay m c none = iprop((∃ f, aPts (peer c) f) ∗ bigSep Finset.univ fun k : Fin 8 => lent m c k) from rfl))) $$ Hpay
  icases Hp with ⟨Ha, Hlent⟩
  iapply (close_paid m K c none Q) $$ [HatB]
  · isplitr; · iexact HR
    iexact HatB
  iintro Hz
  iapply (send_dest m K c _ rfl Q _) $$ [HdL Ha HtS HtV HO]
  · isplitr; · iexact HR
    isplitl [HdL]; · iexact HdL
    isplitl [Ha]; · iexact Ha
    isplitl [HtS]; · iexact HtS
    isplitl [HtV]; · iexact HtV
    iexists _; iexact HO
  iintro ⟨Hcr, HO⟩
  iapply (load_d m c fullShare.right _ Q) $$ HdR
  iintro HdR
  iapply (run_ret c _ Q)
  iapply Hk
  isplitl [Hz]; · iexact Hz
  isplitl [Hcr]; · iexact Hcr
  isplitl [HdR]; · iexact HdR
  isplitl [Hlent]; · iexact Hlent
  isplitl [Hkept]; · iexact Hkept
  iexact HO

theorem run_part2 (c : Dev nD)
    (Q : (Σ' (v34 : IVec S512x512 32) (v38 : FVec F S1x512 .f32) (v46 : BitVec 32) (k0_hw1 : k0_chk1 c v46) (v65 : BitVec 32) (v71 : BitVec 32), IVec S512x512 1) → sProp 𝕄) :
    Q ⟨iota1, cumF m c, sW m c, chk_at m c, nchW (sW m c), Scalar.muli (xW c) (Scalar.subi 512#32 (Scalar.muli (nchW (sW m c)) 64#32)),
        k0_pay6 (xW c) (k0_pay2 (F := F) c (dC m c)) (k0_pay3 c (dC m c)) iota0⟩
      ⊢ runs c (k0_part2 (F := F) xM hxM dM hdM oM hoM sM hsM aM haM cc0_scratch2 cc0_scratch3 c (xW c) (k0_pay2 (F := F) c (dC m c)) (k0_pay3 c (dC m c)) iota0) Q := by
  rw [part2_eq]
  refine (?_ : _ ⊢ _).trans (wp_assume 𝒱₀ (c : Thread nD τ) none Set.univ (chk_at m c))
  exact run_ret c _ Q

end Cert.Exchange

end
-- ==== Proof.Middle.lean ====
module

public import proofs.«01_k».proof.Proof.Body

@[expose] public section

noncomputable section

/-! # The exchange of the chunks, and the whole run -/

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ)

/-! ## The three chains of steps -/

def nothingOwed (c : Dev nD) : sProp 𝕄 := iprop(∃ W, owes (c : Thread nD τ) 0 W)

/-- The first `j` chunks sent or passed over. -/
def sending (c : Dev nD) (j : ℕ) : sProp 𝕄 := iprop(turn j (ready m c) (sent m c) ∗ ∃ W, owes (c : Thread nD τ) (OS m c (j + 2)) W)
/-- The first `j` of the peer's chunks received or passed over. -/
def receiving (c : Dev nD) (j : ℕ) : sProp 𝕄 := iprop(turn j (waiting m c) (got m c) ∗ nothingOwed c)
/-- The first `j` of one's own chunks known to have left, or never sent. -/
def departing (c : Dev nD) (j : ℕ) : sProp 𝕄 := iprop(turn j (leaving m c) (left m c) ∗ nothingOwed c)

variable {α : Type}

theorem send_at (K : Dev nD × Kind → ℕ) (c : Dev nD) (k : Fin 8) (a b : ℕ) (ha : k.val = a) (hb : k.val + 1 = b) {Q : α → sProp 𝕄} {P : TcProg F α} :
    iprop(records m K ∗ sending m c a) ⊢ iprop((sending m c b -∗ runs c P Q) -∗ runs c (sendStep c (sW m c) (chk_at m c) k P) Q) := by
  subst ha hb
  exact send_step m K c (sW m c) (chk_at m c) rfl k

theorem recv_at (K : Dev nD × Kind → ℕ) (c : Dev nD) (k : Fin 8) (a b : ℕ) (ha : k.val = a) (hb : k.val + 1 = b) {Q : α → sProp 𝕄} {P : TcProg F α} :
    iprop(records m K ∗ receiving m c a) ⊢ iprop((receiving m c b -∗ runs c P Q) -∗ runs c (recvStep (nchW (sW m (peer c))) k P) Q) := by
  subst ha hb
  exact recv_step m K c _ (by rw [sW_eq, nchW_eq (sN_le m (peer c))]; rfl) k

theorem left_at (K : Dev nD × Kind → ℕ) (c : Dev nD) (k : Fin 8) (a b : ℕ) (ha : k.val = a) (hb : k.val + 1 = b) {Q : α → sProp 𝕄} {P : TcProg F α} :
    iprop(records m K ∗ departing m c a) ⊢ iprop((departing m c b -∗ runs c P Q) -∗ runs c (leftStep (nchW (sW m c)) k P) Q) := by
  subst ha hb
  exact left_step m K c _ (by rw [sW_eq, nchW_eq (sN_le m c)]; rfl) k

/-! ## The parts -/

/-- The rights to the two payments of chunk `k`'s transfer. -/
def rights (c : Dev nD) (k : Fin 8) : sProp 𝕄 := iprop(dutyTok ER (sendCell c (some k)) 0 () ∗ dutyTok ER (recvCell (peer c) (some k)) 0 ())

theorem sending_start (c : Dev nD) :
    iprop(sWhole c (sC m c) ∗ (bigSep Finset.univ fun k : Fin 8 => lent m c k) ∗ (bigSep Finset.univ fun k : Fin 8 => (rights c k : sProp 𝕄))
        ∗ ∃ W, owes (c : Thread nD τ) (OS m c 2) W) ⊢ sending m c 0 := by
  unfold sending
  rw [turn_zero, sWhole_chunks]
  have h : (bigSep Finset.univ (ready m c) : sProp 𝕄) = iprop((bigSep Finset.univ fun k : Fin 8 => sPts m c k)
      ∗ (bigSep Finset.univ fun k : Fin 8 => lent m c k) ∗ bigSep Finset.univ fun k : Fin 8 => (rights c k : sProp 𝕄)) := by
    rw [← bigSep_sep', ← bigSep_sep']; rfl
  rw [h]
  iintro ⟨H1, H2, H3, H4⟩
  isplitr [H4]
  · isplitl [H1]; · iexact H1
    isplitl [H2] <;> iassumption
  iexact H4

theorem run_part3 (K : Dev nD × Kind → ℕ) (c : Dev nD) (v5 v8 v9 v71 : BitVec 32)
    (Q : (Σ' (v108 : BitVec 32), BitVec 32) → sProp 𝕄) :
    iprop(records m K ∗ xWhole m c ∗ (∃ f, sWhole c f) ∗ (bigSep Finset.univ fun k : Fin 8 => lent m c k) ∗ (bigSep Finset.univ fun k : Fin 8 => (rights c k : sProp 𝕄))
        ∗ ∃ W, owes (c : Thread nD τ) (OS m c 2) W)
      ⊢ iprop((∀ v108, (xWhole m c ∗ sending m c 7) -∗ Q ⟨v108, 0#32⟩)
        -∗ runs c (k0_part3 (F := F) xM hxM dM hdM oM hoM sM hsM aM haM cc0_scratch2 cc0_scratch3 c v5 v8 v9 (sW m c) (chk_at m c) (nchW (sW m c)) v71
            (k0_pay6 (xW c) (k0_pay2 (F := F) c (dC m c)) (k0_pay3 c (dC m c)) iota0)) Q) := by
  rw [part3_eq]
  iintro ⟨#HR, Hx, ⟨%f, Hs⟩, Hl, Ht, HO⟩ Hk
  iapply (load_x m c _ Q) $$ Hx
  iintro Hx
  iapply (load_s c f _ Q) $$ Hs
  iintro Hs
  iapply (store_s c f _ _ Q) $$ Hs
  iintro Hs
  ihave HS := (sending_start m c) $$ [Hs Hl Ht HO]
  · isplitl [Hs]; · unfold sC; iexact Hs
    isplitl [Hl]; · iexact Hl
    isplitl [Ht] <;> iassumption
  iapply (send_at m K c 0 0 1 rfl rfl) $$ [HS]
  · isplitr; · iexact HR
    iexact HS
  iintro HS
  iapply (send_at m K c 1 1 2 rfl rfl) $$ [HS]
  · isplitr; · iexact HR
    iexact HS
  iintro HS
  iapply (send_at m K c 2 2 3 rfl rfl) $$ [HS]
  · isplitr; · iexact HR
    iexact HS
  iintro HS
  iapply (send_at m K c 3 3 4 rfl rfl) $$ [HS]
  · isplitr; · iexact HR
    iexact HS
  iintro HS
  iapply (send_at m K c 4 4 5 rfl rfl) $$ [HS]
  · isplitr; · iexact HR
    iexact HS
  iintro HS
  iapply (send_at m K c 5 5 6 rfl rfl) $$ [HS]
  · isplitr; · iexact HR
    iexact HS
  iintro HS
  iapply (send_at m K c 6 6 7 rfl rfl) $$ [HS]
  · isplitr; · iexact HR
    iexact HS
  iintro HS
  iapply (run_ret c _ Q)
  iapply Hk
  isplitl [Hx] <;> iassumption

theorem sending_end (c : Dev nD) : sending m c 8 ⊢ iprop((bigSep Finset.univ fun k : Fin 8 => sent m c k) ∗ nothingOwed c) := by
  unfold sending nothingOwed
  rw [turn_all, show OS m c (8 + 2) = 0 from OS_end m c]

theorem run_part4 (K : Dev nD × Kind → ℕ) (c : Dev nD) (hag : Agree m c) (v5 v8 v9 v71 v108 c0 : BitVec 32) (v28 : IVec S1x512 32) (v34 : IVec S512x512 32) (v38 : FVec F S1x512 .f32)
    (Q : (Σ' (v111 : IVec S1x512 1) (v118 : IVec S1x512 32) (v119 : BitVec 32) (v137 : BitVec 32) (v139 : BitVec 32) (c64_i32_61 : BitVec 32) (v140 : BitVec 32), BitVec 32) → sProp 𝕄) :
    iprop(records m K ∗ sending m c 7 ∗ (atPos ER (sendCell c none) 0 ∅ 0 ∗ cred (tallyAt (sendCell c none) () ND))
        ∗ (atPos ER (recvCell c none) 0 ∅ 0 ∗ cred (tallyAt (recvCell c none) () ND)))
      ⊢ iprop(((bigSep Finset.univ fun k : Fin 8 => sent m c k) ∗ nothingOwed c ∗ (semVal (sendCell c none) 0 ∗ dHalf m c fullShare.left)
            ∗ (semVal (recvCell c none) 0 ∗ aPts c (dC m (peer c)))
          -∗ Q ⟨k0_pay8 (xW c) v28, k0_pay9 v34 v38, Scalar.subi 512#32 (sW m c), sW m (peer c), Scalar.subi (Scalar.addi (sW m (peer c)) 64#32) 1#32, 64#32,
            Scalar.divsi (Scalar.subi (Scalar.addi (sW m (peer c)) 64#32) 1#32) 64#32,
            Scalar.subi (Scalar.extui (Scalar.cmpi .sgt (Scalar.subi (Scalar.addi (sW m (peer c)) 64#32) 1#32) 0#32))
              (Scalar.extui (Scalar.cmpi .slt (Scalar.subi (Scalar.addi (sW m (peer c)) 64#32) 1#32) 0#32))⟩)
        -∗ runs c (k0_part4 (F := F) xM hxM dM hdM oM hoM sM hsM aM haM cc0_scratch2 cc0_scratch3 c (xW c) v5 v8 v9 v28 v34 v38 (sW m c) (chk_at m c) v71 v108 c0) Q) := by
  rw [part4_eq]
  have hag' : extractAt ![0, 0, 0] (k0_pay10 (F := F) (xW c) (dC m (peer c))) inpos_S1x1x1_p0_0_0 = sW m (peer c) := hag
  iintro ⟨#HR, HS, ⟨HatS, HcS⟩, ⟨HatV, HcV⟩⟩ Hk
  iapply (send_at m K c 7 7 8 rfl rfl) $$ [HS]
  · isplitr; · iexact HR
    iexact HS
  iintro HS
  ihave HS' := (sending_end m c) $$ HS
  unfold nothingOwed
  icases HS' with ⟨Hsent, HO⟩
  iapply (wait_dest m K c false (s' := dM) rfl Q _ (sendS none) rfl) $$ [HatS HcS HO]
  · isplitr; · iexact HR
    isplitl [HatS]; · iexact HatS
    isplitl [HcS] <;> iassumption
  iintro ⟨HzS, Hd, HO⟩
  ihave Hd' := (Entails.of_eq (show pay m c (some (false, none)) = dHalf m c fullShare.left from rfl)) $$ Hd
  iapply (wait_dest m K c true (s' := aM) rfl Q _ (recvS none) rfl) $$ [HatV HcV HO]
  · isplitr; · iexact HR
    isplitl [HatV]; · iexact HatV
    isplitl [HcV] <;> iassumption
  iintro ⟨HzV, Ha, HO⟩
  ihave Ha' := (Entails.of_eq (show pay m c (some (true, none)) = aPts c (dC m (peer c)) from rfl)) $$ Ha
  iapply (load_a c (dC m (peer c)) _ Q) $$ Ha'
  iintro Ha
  rw [hag']
  iapply (run_ret c _ Q)
  iapply Hk
  isplitl [Hsent]; · iexact Hsent
  isplitl [HO]; · iexact HO
  isplitl [HzS Hd']
  · isplitl [HzS] <;> iassumption
  isplitl [HzV] <;> iassumption

theorem run_part5 (K : Dev nD × Kind → ℕ) (c : Dev nD) (v5 v8 v9 : BitVec 32) (v33 : IVec S512x512 32) (v111 : IVec S1x512 1) (v118 : IVec S1x512 32)
    (Q : (Σ' (v156 : BitVec 32) (v157 : BitVec 32), FVec F S512x256 .f32) → sProp 𝕄) :
    iprop(records m K ∗ xWhole m c ∗ receiving m c 0)
      ⊢ iprop(((xWhole m c ∗ receiving m c 5) -∗ Q ⟨nchW (sW m (peer c)), Scalar.muli (xW c) (sW m (peer c)), k0_pay11 (xW c) v33 v111 v118 (sW m (peer c)) (xC m c)⟩)
        -∗ runs c (k0_part5 (F := F) xM hxM dM hdM oM hoM sM hsM aM haM cc0_scratch2 cc0_scratch3 (xW c) v5 v8 v9 v33 v111 v118 (sW m (peer c))
            (Scalar.subi (Scalar.addi (sW m (peer c)) 64#32) 1#32) 64#32 (Scalar.divsi (Scalar.subi (Scalar.addi (sW m (peer c)) 64#32) 1#32) 64#32)
            (Scalar.subi (Scalar.extui (Scalar.cmpi .sgt (Scalar.subi (Scalar.addi (sW m (peer c)) 64#32) 1#32) 0#32))
              (Scalar.extui (Scalar.cmpi .slt (Scalar.subi (Scalar.addi (sW m (peer c)) 64#32) 1#32) 0#32)))) Q) := by
  rw [part5_eq _ _ _ _ _ _ _ _ _ rfl]
  iintro ⟨#HR, Hx, HS⟩ Hk
  iapply (load_x m c _ Q) $$ Hx
  iintro Hx
  iapply (recv_at m K c 0 0 1 rfl rfl) $$ [HS]
  · isplitr; · iexact HR
    iexact HS
  iintro HS
  iapply (recv_at m K c 1 1 2 rfl rfl) $$ [HS]
  · isplitr; · iexact HR
    iexact HS
  iintro HS
  iapply (recv_at m K c 2 2 3 rfl rfl) $$ [HS]
  · isplitr; · iexact HR
    iexact HS
  iintro HS
  iapply (recv_at m K c 3 3 4 rfl rfl) $$ [HS]
  · isplitr; · iexact HR
    iexact HS
  iintro HS
  iapply (recv_at m K c 4 4 5 rfl rfl) $$ [HS]
  · isplitr; · iexact HR
    iexact HS
  iintro HS
  iapply (run_ret c _ Q)
  iapply Hk
  isplitl [Hx] <;> iassumption

/-- Every semaphore the peer's chunks pay back at zero. -/
def recvDone (c : Dev nD) : sProp 𝕄 := bigSep Finset.univ fun k : Fin 8 => semVal (recvCell c (some k)) 0
/-- Every semaphore one's own chunks pay back at zero. -/
def sendDone (c : Dev nD) : sProp 𝕄 := bigSep Finset.univ fun k : Fin 8 => semVal (sendCell c (some k)) 0

theorem receiving_end (c : Dev nD) : receiving m c 8 ⊢ iprop(recvDone c ∗ (bigSep Finset.univ fun k : Fin 8 => gotten m c k) ∗ nothingOwed c) := by
  unfold receiving recvDone
  rw [turn_all]
  have h : (bigSep Finset.univ (got m c) : sProp 𝕄) = iprop((bigSep Finset.univ fun k : Fin 8 => semVal (recvCell c (some k)) 0) ∗ bigSep Finset.univ fun k : Fin 8 => gotten m c k) := by
    rw [← bigSep_sep']; rfl
  rw [h]
  iintro ⟨⟨H1, H2⟩, H3⟩
  isplitl [H1]; · iexact H1
  isplitl [H2] <;> iassumption

theorem departing_start (c : Dev nD) :
    iprop((bigSep Finset.univ fun k : Fin 8 => (atPos ER (sendCell c (some k)) 0 ∅ 0 : sProp 𝕄)) ∗ (bigSep Finset.univ fun k : Fin 8 => sent m c k) ∗ nothingOwed c) ⊢ departing m c 0 := by
  unfold departing
  rw [turn_zero]
  have h : (bigSep Finset.univ (leaving m c) : sProp 𝕄) = iprop((bigSep Finset.univ fun k : Fin 8 => (atPos ER (sendCell c (some k)) 0 ∅ 0 : sProp 𝕄)) ∗ bigSep Finset.univ fun k : Fin 8 => sent m c k) := by
    rw [← bigSep_sep']; rfl
  rw [h]
  iintro ⟨H1, H2, H3⟩
  isplitr [H3]
  · isplitl [H1] <;> iassumption
  iexact H3

theorem departing_end (c : Dev nD) : departing m c 8 ⊢ iprop(sendDone c ∗ sWhole c (sC m c) ∗ nothingOwed c) := by
  unfold departing sendDone
  rw [turn_all, sWhole_chunks]
  have h : (bigSep Finset.univ (left m c) : sProp 𝕄) = iprop((bigSep Finset.univ fun k : Fin 8 => semVal (sendCell c (some k)) 0) ∗ bigSep Finset.univ fun k : Fin 8 => sPts m c k) := by
    rw [← bigSep_sep']; rfl
  rw [h]
  iintro ⟨⟨H1, H2⟩, H3⟩
  isplitl [H1]; · iexact H1
  isplitl [H2] <;> iassumption

theorem run_part6 (K : Dev nD × Kind → ℕ) (c : Dev nD) (v5 v8 v9 v119 v157 : BitVec 32) (v168 : FVec F S512x256 .f32) (g : (cc0_stg2_0 : Ref sig .tc).ty.Contents (Elt F))
    (Q : PUnit → sProp 𝕄) :
    iprop(records m K ∗ receiving m c 5 ∗ (bigSep Finset.univ fun k : Fin 8 => kept m c g k)
        ∗ (bigSep Finset.univ fun k : Fin 8 => (atPos ER (sendCell c (some k)) 0 ∅ 0 : sProp 𝕄)) ∗ bigSep Finset.univ fun k : Fin 8 => sent m c k)
      ⊢ iprop((∀ g', ⌜Received m c g'⌝ -∗ (recvDone c ∗ oWhole c (k0_pay12 v119 v157 v168 g') ∗ departing m c 4) -∗ Q ⟨⟩)
        -∗ runs c (k0_part6 (F := F) xM hxM dM hdM oM hoM sM hsM aM haM cc0_scratch2 cc0_scratch3 v5 v8 v9 (nchW (sW m c)) v119 (nchW (sW m (peer c))) v157 v168) Q) := by
  rw [part6_eq]
  iintro ⟨#HR, HS, Hkept, Hat, Hsent⟩ Hk
  iapply (recv_at m K c 5 5 6 rfl rfl) $$ [HS]
  · isplitr; · iexact HR
    iexact HS
  iintro HS
  iapply (recv_at m K c 6 6 7 rfl rfl) $$ [HS]
  · isplitr; · iexact HR
    iexact HS
  iintro HS
  iapply (recv_at m K c 7 7 8 rfl rfl) $$ [HS]
  · isplitr; · iexact HR
    iexact HS
  iintro HS
  ihave HS' := (receiving_end m c) $$ HS
  icases HS' with ⟨Hz, Hgot, HO⟩
  ihave Ho := (oWhole_join m c g) $$ [Hgot Hkept]
  · isplitl [Hgot] <;> iassumption
  icases Ho with ⟨%g', %hg', Ho⟩
  iapply (load_o c g' _ Q) $$ Ho
  iintro Ho
  iapply (load_o c g' _ Q) $$ Ho
  iintro Ho
  iapply (store_o c g' _ _ Q) $$ Ho
  iintro Ho
  ihave HD := (departing_start m c) $$ [Hat Hsent HO]
  · isplitl [Hat]; · iexact Hat
    isplitl [Hsent] <;> iassumption
  iapply (left_at m K c 0 0 1 rfl rfl) $$ [HD]
  · isplitr; · iexact HR
    iexact HD
  iintro HD
  iapply (left_at m K c 1 1 2 rfl rfl) $$ [HD]
  · isplitr; · iexact HR
    iexact HD
  iintro HD
  iapply (left_at m K c 2 2 3 rfl rfl) $$ [HD]
  · isplitr; · iexact HR
    iexact HD
  iintro HD
  iapply (left_at m K c 3 3 4 rfl rfl) $$ [HD]
  · isplitr; · iexact HR
    iexact HD
  iintro HD
  iapply (run_ret c _ Q)
  iapply Hk $$ %g' %hg'
  isplitl [Hz]; · iexact Hz
  isplitl [Ho] <;> iassumption

theorem run_tail (K : Dev nD × Kind → ℕ) (c : Dev nD) (Q : PUnit → sProp 𝕄) :
    iprop(records m K ∗ departing m c 4)
      ⊢ iprop((departing m c 8 -∗ Q ⟨⟩) -∗ runs c (tail (F := F) (nchW (sW m c))) Q) := by
  unfold tail
  iintro ⟨#HR, HD⟩ Hk
  iapply (left_at m K c 4 4 5 rfl rfl) $$ [HD]
  · isplitr; · iexact HR
    iexact HD
  iintro HD
  iapply (left_at m K c 5 5 6 rfl rfl) $$ [HD]
  · isplitr; · iexact HR
    iexact HD
  iintro HD
  iapply (left_at m K c 6 6 7 rfl rfl) $$ [HD]
  · isplitr; · iexact HR
    iexact HD
  iintro HD
  iapply (left_at m K c 7 7 8 rfl rfl) $$ [HD]
  · isplitr; · iexact HR
    iexact HD
  iintro HD
  iapply (run_ret c _ Q)
  iapply Hk
  iexact HD

end Cert.Exchange

end
-- ==== Proof.Run.lean ====
module

public import proofs.«01_k».proof.Proof.Middle

@[expose] public section

noncomputable section

/-! # The whole run on one device -/

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ)

/-- The semaphore rights device `c` starts with. -/
def ghost (c : Dev nD) : sProp 𝕄 :=
  iprop((atPos ER (barCell c) 0 ∅ 0 ∗ cred (tallyAt (barCell c) () 1) ∗ dutyTok ER (barCell (peer c)) 0 () ∗ dutyTok ER (sendCell c none) 0 () ∗ dutyTok ER (recvCell (peer c) none) 0 ())
    ∗ atPos ER (sendCell c none) 0 ∅ 0 ∗ (atPos ER (recvCell c none) 0 ∅ 0 ∗ cred (tallyAt (recvCell c none) () ND))
    ∗ (bigSep Finset.univ fun k : Fin 8 => rights c k) ∗ (bigSep Finset.univ fun k : Fin 8 => (atPos ER (sendCell c (some k)) 0 ∅ 0 : sProp 𝕄))
    ∗ bigSep Finset.univ fun k : Fin 8 => waiting m c k)

/-- Every semaphore of device `c` at zero. -/
def atRest (c : Dev nD) : sProp 𝕄 :=
  iprop(semVal (barCell c) 0 ∗ semVal (sendCell c none) 0 ∗ semVal (recvCell c none) 0 ∗ sendDone c ∗ recvDone c)

/-- The memories device `c` starts from, its result holding `g`. -/
def memBefore (c : Dev nD) (g : (cc0_stg2_0 : Ref sig .tc).ty.Contents (Elt F)) : sProp 𝕄 :=
  iprop(xWhole m c ∗ dHalf m c fullShare ∗ oWhole c g ∗ (∃ f, sWhole c f) ∗ ∃ f, aPts c f)

/-- The memories device `c` ends with. -/
def memAfter (c : Dev nD) : sProp 𝕄 :=
  iprop(xWhole m c ∗ dHalf m c fullShare ∗ (∃ g', ⌜Received m c g'⌝ ∗ oWhole c (result m c g')) ∗ (∃ f, sWhole c f) ∗ ∃ f, aPts c f)

set_option maxHeartbeats 1000000 in
/-- The kernel runs on device `c` from its rights and memories to every semaphore at zero and its result in place. -/
theorem run_body (K : Dev nD × Kind → ℕ) (c : Dev nD) (hag : Agree m c) (g : (cc0_stg2_0 : Ref sig .tc).ty.Contents (Elt F)) (Q : PUnit → sProp 𝕄) :
    iprop(records m K ∗ levAts L lv ∗ ghost m c ∗ memBefore m c g ∗ ∃ W, owes (c : Thread nD τ) (OS m c 0) W)
      ⊢ iprop(((atRest c ∗ memAfter m c ∗ nothingOwed c) -∗ Q ⟨⟩)
        -∗ runs c (cc0_body (F := F) xM hxM dM hdM oM hoM sM hsM aM haM cc0_scratch2 cc0_scratch3) Q) := by
  rw [body_eq]
  unfold ghost memBefore memAfter atRest runs
  rw [wp_bind]
  iintro ⟨#HR, #Hlev, ⟨Hbar, HatS, HV, Hrights, HatSk, Hwait⟩, ⟨Hx, Hd, Ho, Hs, Ha⟩, HO⟩ Hk
  iapply (run_part1 m K c g _) $$ [Hbar Hd Ho Ha HO]
  · isplitr; · iexact HR
    isplitr; · iexact Hlev
    isplitl [Hbar]; · iexact Hbar
    isplitl [Hd]; · iexact Hd
    isplitl [Ha]; · iexact Ha
    isplitl [Ho]; · iexact Ho
    iexact HO
  iintro %v5 %v8 ⟨HzB, HcS, HdR, Hlent, Hkept, HO⟩
  beta_reduce
  rw [wp_bind]
  iapply (run_part2 m c _)
  beta_reduce
  rw [wp_bind]
  iapply (run_part3 m K c v5 v8 _ _ _) $$ [Hx Hs Hlent Hrights HO]
  · isplitr; · iexact HR
    isplitl [Hx]; · iexact Hx
    isplitl [Hs]; · iexact Hs
    isplitl [Hlent]; · iexact Hlent
    isplitl [Hrights] <;> iassumption
  iintro %v108 ⟨Hx, HS⟩
  beta_reduce
  rw [wp_bind]
  iapply (run_part4 m K c hag v5 v8 _ _ v108 _ _ _ _ _) $$ [HS HatS HcS HV]
  · isplitr; · iexact HR
    isplitl [HS]; · iexact HS
    isplitl [HatS HcS]
    · isplitl [HatS] <;> iassumption
    iexact HV
  iintro ⟨Hsent, HO, ⟨HzS, HdL⟩, ⟨HzV, Ha⟩⟩
  beta_reduce
  rw [wp_bind]
  iapply (run_part5 m K c v5 v8 _ _ _ _ _) $$ [Hx Hwait HO]
  · isplitr; · iexact HR
    isplitl [Hx]; · iexact Hx
    unfold receiving
    rw [turn_zero]
    isplitl [Hwait] <;> iassumption
  iintro ⟨Hx, HS⟩
  beta_reduce
  rw [wp_bind]
  iapply (run_part6 m K c v5 v8 _ _ _ _ g _) $$ [HS Hkept HatSk Hsent]
  · isplitr; · iexact HR
    isplitl [HS]; · iexact HS
    isplitl [Hkept]; · iexact Hkept
    isplitl [HatSk] <;> iassumption
  iintro %g' %hg' ⟨HzVk, Ho, HD⟩
  beta_reduce
  iapply (run_tail m K c Q) $$ [HD]
  · isplitr; · iexact HR
    iexact HD
  iintro HD
  ihave HD' := (departing_end m c) $$ HD
  icases HD' with ⟨HzSk, Hs, HO⟩
  iapply Hk
  isplitl [HzB HzS HzV HzSk HzVk]
  · isplitl [HzB]; · iexact HzB
    isplitl [HzS]; · iexact HzS
    isplitl [HzV]; · iexact HzV
    isplitl [HzSk] <;> iassumption
  isplitr [HO]
  · isplitl [Hx]; · iexact Hx
    isplitl [HdL HdR]
    · iapply (dWhole_halves m c).2
      isplitl [HdL] <;> iassumption
    isplitl [Ho]
    · iexists g'
      isplitr; · ipureintro; exact hg'
      unfold result keptRows cumF
      iexact Ho
    isplitl [Hs]
    · iexists _; iexact Hs
    iexists _; iexact Ha
  iexact HO

end Cert.Exchange

end
-- ==== Proof.Data.lean ====
module

public import proofs.«01_k».proof.Proof.Run
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.DatRel

@[expose] public section

noncomputable section

/-! # The proof data of the call

The two operands are staged and left as they are; the result is known by what it may be: the selection of rows the
device makes last, over any contents in which its peer's chunks have landed. -/

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat BodyObligationRel)
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

/-- The state the launch starts from. -/
abbrev s₀ : MemSt nD τ sig (Elt F) := ⟨m, fun _ => 0, ρ⟩

/-- What a device starts from besides its scratch memories. -/
def start (c : Dev nD) : sProp 𝕄 := iprop((∃ K, records m K ∗ ghost m c) ∗ levAts L lv)

/-- The device's scratch memories, at some contents. -/
def scratch (c : Dev nD) : sProp 𝕄 := iprop((∃ f, sWhole c f) ∗ ∃ f, aPts c f)

def Φ₀ (c : Dev nD) : sProp 𝕄 := iprop(start m c ∗ scratch c)
def Φ₁ (c : Dev nD) : sProp 𝕄 := iprop(atRest c ∗ scratch c)

/-- The exact data. Those of the result are never used: its window is held to `May` below. -/
def data (_ : Fin 1) (c : Dev nD) : Dat τ (Elt F) Unit ℕ UU ℕ cfg0 c where
  A w := (s₀ m ρ).mem ((cfg0.win w).arr.view.loc (c : Thread nD τ))
  after w _ := match w with
    | ⟨0, _⟩ => xC m c
    | ⟨1, _⟩ => dC m c
    | ⟨2, _⟩ => xC m c
  Φ t := match t with
    | ⟨0, _⟩ => Φ₀ m c
    | ⟨_ + 1, _⟩ => Φ₁ c
  q _ := fullShare
  owed t := match t with
    | ⟨0, _⟩ => OS m c 0
    | ⟨_ + 1, _⟩ => 0

/-- The window known by what it may hold. -/
def loosely (w : Fin cfg0.W) : Bool := match w with
  | ⟨0, _⟩ => false
  | ⟨1, _⟩ => false
  | ⟨_ + 2, _⟩ => true

/-- What the result may be. -/
def MayBe (c : Dev nD) (X : (cc0_stg2_0 : Ref sig .tc).ty.Contents (Elt F)) : Prop := ∃ g, Received m c g ∧ X = result m c g

def May (c : Dev nD) (w : Fin cfg0.W) (_ : Fin cfg0.N) : ((cfg0.win w).block.Idx → Elt F (cfg0.win w).elt) → Prop := match w with
  | ⟨0, _⟩ => fun _ => True
  | ⟨1, _⟩ => fun _ => True
  | ⟨2, _⟩ => fun X => MayBe m c X

/-- The data of the call. -/
def rdats (p : Fin 1) (c : Dev nD) : RDat τ (Elt F) Unit ℕ UU ℕ cfg0 c := (data m ρ p c).toRRel loosely (May m c)

theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

abbrev held (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

theorem before_x (c : Dev nD) (d) : (data m ρ 0 c).before (0 : Fin 3) t0_0 d = xC m c := by
  unfold Dat.before; rw [if_pos (fetch0_0 t0_0)]; rfl
theorem before_d (c : Dev nD) (d) : (data m ρ 0 c).before (1 : Fin 3) t0_0 d = dC m c := by
  unfold Dat.before; rw [if_pos (fetch0_1 t0_0)]; rfl

def bodyPre (c : Dev nD) : sProp 𝕄 :=
  iprop(Φ₀ m c ∗ (data m ρ 0 c).owesAt () t0_0.castSucc
    ∗ (∃ d, held c cc0_stg0_0 ((data m ρ 0 c).before (0 : Fin 3) t0_0 d))
    ∗ (∃ d, held c cc0_stg1_0 ((data m ρ 0 c).before (1 : Fin 3) t0_0 d))
    ∗ (∃ Y, ⌜(rdats m ρ 0 c).Finds (2 : Fin 3) t0_0 Y⌝ ∗ held c cc0_stg2_0 Y))

def bodyPost (c : Dev nD) : sProp 𝕄 :=
  iprop(Φ₁ c ∗ (data m ρ 0 c).owesAt () t0_0.succ
    ∗ held c cc0_stg0_0 (xC m c) ∗ held c cc0_stg1_0 (dC m c) ∗ (∃ X, ⌜MayBe m c X⌝ ∗ held c cc0_stg2_0 X))

theorem body_holds (c : Dev nD) (hag : Agree m c) :
    bodyPre m ρ c ⊢ runs c (cc0_body (F := F) xM hxM dM hdM oM hoM sM hsM aM haM cc0_scratch2 cc0_scratch3) fun _ => bodyPost m ρ c := by
  unfold bodyPre Φ₀ start scratch held
  iintro ⟨⟨⟨⟨%K, #HR, Hg⟩, #Hlev⟩, Hs, Ha⟩, Ho, ⟨%d0, %f0, %h0, Hx⟩, ⟨%d1, %f1, %h1, Hd⟩, ⟨%Y, -, %f2, %h2, Hr⟩⟩
  rw [before_x] at h0
  rw [before_d] at h1
  subst h0 h1
  unfold Dat.owesAt Pipeline.owesWithin
  icases Ho with ⟨%W, %hW, HO⟩
  ihave HO := (Entails.of_eq (show owes (c : Thread nD τ) ((data m ρ 0 c).owed t0_0.castSucc) W = (owes (c : Thread nD τ) (OS m c 0) W : sProp 𝕄) from rfl)) $$ HO
  iapply (run_body m K c hag f2 _) $$ [Hg Hs Ha HO Hx Hd Hr]
  · isplitr; · iexact HR
    isplitr; · iexact Hlev
    isplitl [Hg]; · iexact Hg
    isplitr [HO]
    · unfold memBefore xWhole dHalf oWhole
      isplitl [Hx]; · iexact Hx
      isplitl [Hd]; · iexact Hd
      isplitl [Hr]; · iexact Hr
      isplitl [Hs] <;> iassumption
    · iexists W; iexact HO
  unfold memAfter nothingOwed xWhole dHalf oWhole bodyPost Φ₁ scratch held Dat.owesAt Pipeline.owesWithin
  iintro ⟨Hz, ⟨Hx, Hd, ⟨%g, %hg, Hr⟩, Hs, Ha⟩, ⟨%W', HO⟩⟩
  isplitl [Hz Hs Ha]
  · isplitl [Hz]; · iexact Hz
    isplitl [Hs] <;> iassumption
  isplitl [HO]
  · iexists W'
    isplitr; · (ipureintro; exact fun _ _ => Or.inl trivial)
    ihave HO := (Entails.of_eq (show (owes (c : Thread nD τ) 0 W' : sProp 𝕄) = owes (c : Thread nD τ) ((data m ρ 0 c).owed t0_0.succ) W' from rfl)) $$ HO
    iexact HO
  isplitl [Hx]
  · iexists _; isplitr; · (ipureintro; rfl)
    iexact Hx
  isplitl [Hd]
  · iexists _; isplitr; · (ipureintro; rfl)
    iexact Hd
  iexists (result m c g)
  isplitr; · (ipureintro; exact ⟨g, hg, rfl⟩)
  iexists _; isplitr; · (ipureintro; rfl)
  iexact Hr

set_option maxRecDepth 4000 in
/-- The body meets the data of the call. -/
theorem body_meets (hag : ∀ c, Agree m c) (c : Dev nD) : (rdats (F := F) m ρ 0 c).BodyObligation (defs₀ (F := F)) 𝒱₀ () Set.univ := by
  refine BodyObligationRel.toRRel _ (fun t => ?_)
  rw [fin_N0 t]
  rw [bigSep_W0, bigSep_W0]
  simp only [owns_whole]
  exact body_holds m ρ c (hag c)

end Cert.Exchange

end
-- ==== Proof.Deal.lean ====
module

public import proofs.«01_k».proof.Proof.Data

@[expose] public section

noncomputable section

/-! # Dealing the semaphore rights out

Before the devices start, every semaphore is at zero and its schedule is opened. The right to pay a semaphore goes to
the device that pays it: the sends' stay, the barrier's and the receives' go to the peer. -/

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat BodyObligationRel)
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

/-! ## Sums over the kinds of semaphore -/

theorem bigSep_option {I : Type} [Fintype I] [DecidableEq I] (Φ : Option I → sProp 𝕄) :
    bigSep Finset.univ Φ = iprop(Φ none ∗ bigSep Finset.univ fun i => Φ (some i)) := by
  have h : (Finset.univ : Finset (Option I)).erase none = Finset.univ.map Function.Embedding.some := by
    ext x; cases x <;> simp
  rw [bigSep_univ_at Φ none, h, bigSep_map]; rfl

theorem bigSep_bool (Φ : Bool → sProp 𝕄) : bigSep Finset.univ Φ = iprop(Φ false ∗ Φ true) :=
  bigSep_univ_eq_bigSepL [false, true] (by decide) (by decide) Φ

theorem bigSep_kind (Φ : Kind → sProp 𝕄) :
    bigSep Finset.univ Φ
      = iprop(Φ none ∗ (Φ (some (false, none)) ∗ bigSep Finset.univ fun k : Fin 8 => Φ (some (false, some k)))
        ∗ (Φ (some (true, none)) ∗ bigSep Finset.univ fun k : Fin 8 => Φ (some (true, some k)))) := by
  rw [bigSep_option, bigSep_univ_prod, bigSep_bool, bigSep_option, bigSep_option]

/-! ## The semaphores of the launch -/

/-- The semaphores the call itself brings. -/
abbrev osem : Bool × Chan → SemLoc sig := fun x => csem (some x)

theorem ownSemFacts : Pipeline.OwnSemFacts cfg0.spec osem := by decide

theorem unscoped_eq (c : Dev nD) : (unscopedSems0 c : sProp 𝕄) = semVal (barCell c) 0 := by
  unfold unscopedSems0; rw [bigSep_eq_bigSepL_of_eq [SemLoc.reg barS] (by decide) (by decide)]; rfl

abbrev ownZero (c : Dev nD) : sProp 𝕄 := Pipeline.ownSems0 (Ix := Unit) (Name := ℕ) (U := UU) (Lvl := ℕ) (Val := Elt F) (τ := τ) osem c

theorem all_zero (c : Dev nD) :
    iprop(ownZero c ∗ unscopedSems0 c) ⊢ (bigSep Finset.univ fun k : Kind => semVal (kcell (c, k)) 0 : sProp 𝕄) := by
  rw [bigSep_option, unscoped_eq]
  unfold ownZero Pipeline.ownSems0
  iintro ⟨HS, HB⟩
  isplitl [HB]; · iexact HB
  iexact HS

theorem rest_zero (c : Dev nD) : (atRest c : sProp 𝕄) ⊢ iprop(unscopedSems0 c ∗ ownZero c) := by
  unfold ownZero Pipeline.ownSems0 atRest sendDone recvDone
  rw [unscoped_eq, bigSep_univ_prod, bigSep_bool, bigSep_option, bigSep_option]
  iintro ⟨HB, HS, HV, HSk, HVk⟩
  isplitl [HB]; · iexact HB
  isplitl [HS HSk]
  · isplitl [HS]; · iexact HS
    iexact HSk
  isplitl [HV]; · iexact HV
  iexact HVk

/-! ## The tokens -/

def cells : Finset (GSem nD τ sig) := Finset.univ.map ⟨kcell, kcell_injective⟩

abbrev tokOf (ck : Dev nD × Kind) : GSem nD τ sig × ℕ × Unit := (kcell ck, 0, ())
theorem tokOf_injective : Function.Injective tokOf := fun a b h => kcell_injective (congrArg Prod.fst h)
def toks : Finset (GSem nD τ sig × ℕ × Unit) := Finset.univ.map ⟨tokOf, tokOf_injective⟩

/-- What the launch mints: the staging's cells and the exchange's. -/
def u₀ : UU := (initOf (Pipeline.cells cfgs cellOf_inj) (Pipeline.launchToks cfgs cellOf_inj), initOf cells toks)

/-- Device `c`'s own semaphores: the position, the schedule's mark and the token of each. -/
def minted (c : Dev nD) : sProp 𝕄 :=
  iprop((bigSep Finset.univ fun k : Kind => iprop(atPos ER (kcell (c, k)) 0 ∅ 0 ∗ reached ER (kcell (c, k)) 0))
    ∗ bigSep Finset.univ fun k : Kind => dutyTok ER (kcell (c, k)) 0 ())

/-- What device `c` is dealt at first. -/
def dealt₀ (c : Dev nD) : sProp 𝕄 := iprop((bigSep Finset.univ fun k : Kind => roundState ER (rd m) (kcell (c, k)) 0) ∗ minted c)

theorem fund_exchange : BI.own (ER (initOf cells toks)) ⊢ (|==> bigSep Finset.univ (dealt₀ m) : sProp 𝕄) := by
  have hX (Φ : GSem nD τ sig → sProp 𝕄) : bigSep cells Φ = bigSep Finset.univ fun c : Dev nD => bigSep Finset.univ fun k : Kind => Φ (kcell (c, k)) := by
    unfold cells; rw [bigSep_map, bigSep_univ_prod]; rfl
  have hT : bigSep toks (fun x => (dutyTok ER x.1 x.2.1 x.2.2 : sProp 𝕄))
      = bigSep Finset.univ fun c : Dev nD => bigSep Finset.univ fun k : Kind => dutyTok ER (kcell (c, k)) 0 () := by
    unfold toks; rw [bigSep_map, bigSep_univ_prod]; rfl
  iintro HX
  imod (Rounds.fund ER (rd m) cells toks) $$ HX with ⟨Hst, Hr, Hat, Htok⟩
  imodintro
  ihave Hst' := (Entails.of_eq (hX fun g => roundState ER (rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold dealt₀ minted; simp only [bigSep_sep']
  isplitl [Hst']; · iexact Hst'
  isplitl [Hat' Hr']
  · isplitl [Hat'] <;> iassumption
  iexact Htok'

/-- The device that pays device `c`'s semaphore of a kind, and whose semaphore of that kind device `c` pays. -/
def other (c : Dev nD) : Kind → Dev nD
  | some (false, _) => c
  | _ => peer c

theorem other_other (c : Dev nD) (k : Kind) : other (other c k) k = c := by
  rcases k with _ | ⟨_ | _, k⟩
  · exact peer_peer c
  · rfl
  · exact peer_peer c

def dealEquiv : Dev nD × Kind ≃ Dev nD × Kind where
  toFun x := (other x.1 x.2, x.2)
  invFun x := (other x.1 x.2, x.2)
  left_inv x := Prod.ext (other_other x.1 x.2) rfl
  right_inv x := Prod.ext (other_other x.1 x.2) rfl

theorem toks_dealt :
    (bigSep Finset.univ fun c : Dev nD => bigSep Finset.univ fun k : Kind => (dutyTok ER (kcell (c, k)) 0 () : sProp 𝕄))
      = bigSep Finset.univ fun c : Dev nD => bigSep Finset.univ fun k : Kind => dutyTok ER (kcell (other c k, k)) 0 () := by
  rw [← bigSep_univ_prod (fun ck : Dev nD × Kind => (dutyTok ER (kcell ck) 0 () : sProp 𝕄)), bigSep_univ_equiv dealEquiv, bigSep_univ_prod]
  rfl

/-- The positions and tokens device `c` keeps. -/
def keeps (c : Dev nD) : sProp 𝕄 :=
  iprop((bigSep Finset.univ fun k : Kind => atPos ER (kcell (c, k)) 0 ∅ 0) ∗ bigSep Finset.univ fun k : Kind => dutyTok ER (kcell (other c k, k)) 0 ())

/-- What device `c` has once all schedules are open. -/
def dealt (c : Dev nD) : sProp 𝕄 := iprop(∃ K, records m K ∗ keeps c)

theorem opened (c : Dev nD) :
    iprop(ownZero c ∗ unscopedSems0 c ∗ dealt₀ m c)
      ⊢ |={Set.univ}=> iprop((bigSep Finset.univ fun k : Kind => iprop(∃ κ : ℕ, cellInv ER (rd m) κ (kcell (c, k)))) ∗ minted c) := by
  unfold dealt₀
  iintro ⟨Hos, Hus, Hst, Hm⟩
  ihave Hv := (all_zero (F := F) c) $$ [Hos Hus]
  · isplitl [Hos] <;> iassumption
  imod (show iprop((bigSep Finset.univ fun k : Kind => semVal (kcell (c, k)) 0) ∗ bigSep Finset.univ fun k : Kind => roundState ER (rd m) (kcell (c, k)) 0)
      ⊢ (|={Set.univ}=> bigSep Finset.univ fun k => iprop(∃ κ : ℕ, cellInv ER (rd m) κ (kcell (c, k))) : sProp 𝕄) from by
        rw [← bigSep_sep']
        exact (bigSep_mono fun k _ => (Rounds.body_intro ER (rd m) (kcell (c, k))).trans inv_alloc).trans (bigSep_fupd _ _)) $$ [Hv Hst] with Hinv
  · isplitl [Hv] <;> iassumption
  imodintro
  isplitl [Hinv] <;> iassumption

theorem to_each {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem dealt_intro (K : Dev nD × Kind → ℕ) (c : Dev nD) : iprop(records m K ∗ keeps c) ⊢ dealt m c := by
  unfold dealt
  iintro H
  iexists K
  iexact H

theorem keeps_all :
    iprop((bigSep Finset.univ fun c : Dev nD => bigSep Finset.univ fun k : Kind => atPos ER (kcell (c, k)) 0 ∅ 0)
      ∗ bigSep Finset.univ fun c : Dev nD => bigSep Finset.univ fun k : Kind => (dutyTok ER (kcell (c, k)) 0 () : sProp 𝕄))
      = bigSep Finset.univ fun c : Dev nD => (keeps c : sProp 𝕄) := by
  rw [toks_dealt, ← bigSep_sep']; rfl

theorem regroup :
    (bigSep Finset.univ fun c : Dev nD =>
        iprop((bigSep Finset.univ fun k : Kind => iprop(∃ κ : ℕ, cellInv ER (rd m) κ (kcell (c, k)))) ∗ minted c) : sProp 𝕄)
      ⊢ bigSep Finset.univ (dealt m) := by
  unfold minted
  rw [bigSep_sep', bigSep_sep', ← bigSep_univ_prod (fun ck : Dev nD × Kind => iprop(∃ κ : ℕ, cellInv ER (rd m) κ (kcell ck))),
    bigSep_congr (s := Finset.univ) (fun (c : Dev nD) _ => bigSep_sep' Finset.univ (fun k : Kind => (atPos ER (kcell (c, k)) 0 ∅ 0 : sProp 𝕄)) (fun k => reached ER (kcell (c, k)) 0)),
    bigSep_sep', ← bigSep_univ_prod (fun ck : Dev nD × Kind => (reached ER (kcell ck) 0 : sProp 𝕄))]
  iintro ⟨HI, ⟨Hat, #HR⟩, Htok⟩
  ihave HK := (BI.bigSep_exists_pi Finset.univ (fun (ck : Dev nD × Kind) (κ : ℕ) => (cellInv ER (rd m) κ (kcell ck) : sProp 𝕄))) $$ HI
  icases HK with ⟨%K, #HI⟩
  iapply (to_each (R := records m K) fun c _ => dealt_intro m K c)
  isplitr
  · unfold records; isplitl; · iexact HI
    iexact HR
  iapply (Entails.of_eq keeps_all)
  isplitl [Hat] <;> iassumption

/-- All devices' schedules opened at once. -/
theorem deal_all : (bigSep Finset.univ fun c => iprop(ownZero c ∗ unscopedSems0 c ∗ dealt₀ m c) : sProp 𝕄)
    ⊢ |={Set.univ}=> bigSep Finset.univ (dealt m) :=
  ((bigSep_mono fun c _ => opened m c).trans (bigSep_fupd _ _)).trans (BI.fupd_mono (regroup m))

/-! ## The credit -/

theorem credit_at (c : Dev nD) (k : Kind) :
    tallyOn (kcell (c, k)) (launchCredit (Pipeline.owing fun d => OS m d 0) 0 (kcell (c, k)))
      = (tallyAt (kcell (c, k)) () (owe m (peer c) k) : CellTallies nD τ sig Unit) := by
  unfold tallyAt; refine congrArg _ (Finsupp.ext fun u => ?_); cases u
  have h : ∀ d : Dev nD, OS m d 0 (kcell (c, k)) () = if d = peer c then owe m d k else 0 := fun d => by
    rw [OS_at]
    by_cases hd : d = peer c
    · rw [if_pos hd, if_pos ⟨by rw [hd, peer_peer], Nat.zero_le _⟩]
    · rw [if_neg hd, if_neg fun hh => hd (by rw [hh.1, peer_peer])]
  rw [Pipeline.launchCredit_owing, Finsupp.single_eq_same, Finset.sum_congr rfl fun d _ => h d, Finset.sum_ite_eq' Finset.univ (peer c),
    if_pos (Finset.mem_univ _)]

theorem credits (c : Dev nD) :
    (Pipeline.launchCred (fun d => OS m d 0) c : sProp 𝕄) ⊢ bigSep Finset.univ fun k : Kind => cred (tallyAt (kcell (c, k)) () (owe m (peer c) k)) := by
  unfold Pipeline.launchCred
  refine (BI.bigSep_subset (Finset.subset_univ (Finset.univ.map ⟨csem, csem_injective⟩))).trans ?_
  rw [bigSep_map]
  exact bigSep_mono fun k _ => Entails.of_eq (congrArg cred (credit_at m c k))

/-- The rights and the credit make up what the kernel starts from. -/
theorem ghost_of (c : Dev nD) :
    iprop(keeps c ∗ bigSep Finset.univ fun k : Kind => cred (tallyAt (kcell (c, k)) () (owe m (peer c) k))) ⊢ ghost m c := by
  have hr : iprop((bigSep Finset.univ fun k : Fin 8 => dutyTok ER (sendCell c (some k)) 0 ()) ∗ bigSep Finset.univ fun k : Fin 8 => (dutyTok ER (recvCell (peer c) (some k)) 0 () : sProp 𝕄))
      = bigSep Finset.univ fun k : Fin 8 => rights c k := by rw [← bigSep_sep']; rfl
  have hw : iprop((bigSep Finset.univ fun k : Fin 8 => atPos ER (recvCell c (some k)) 0 ∅ 0)
        ∗ bigSep Finset.univ fun k : Fin 8 => (cred (tallyAt (recvCell c (some k)) () (owe m (peer c) (some (true, some k)))) : sProp 𝕄))
      = bigSep Finset.univ fun k : Fin 8 => waiting m c k := by rw [← bigSep_sep']; rfl
  unfold ghost keeps
  rw [bigSep_kind, bigSep_kind, bigSep_kind, ← hr, ← hw]
  iintro ⟨⟨⟨HaB, ⟨HaS, HaSk⟩, HaV, HaVk⟩, HtB, ⟨HtS, HtSk⟩, HtV, HtVk⟩, HcB, -, HcV, HcVk⟩
  isplitl [HaB HcB HtB HtS HtV]
  · isplitl [HaB]; · iexact HaB
    isplitl [HcB]; · iexact HcB
    isplitl [HtB]; · iexact HtB
    isplitl [HtS]; · iexact HtS
    iexact HtV
  isplitl [HaS]; · iexact HaS
  isplitl [HaV HcV]
  · isplitl [HaV]; · iexact HaV
    iexact HcV
  isplitl [HtSk HtVk]
  · isplitl [HtSk]; · iexact HtSk
    iexact HtVk
  isplitl [HaSk]; · iexact HaSk
  isplitl [HaVk]; · iexact HaVk
  iexact HcVk

end Cert.Exchange

end
-- ==== Proof.Main.lean ====
module

public import proofs.«01_k».proof.Proof.Deal
public import Idealize.ShloMosaic.Lib.Pipeline.ArrRel
public import Idealize.ShloMosaic.Lib.Pipeline.CollectiveSegs
public import Idealize.ShloMosaic.Lib.Quiescent

@[expose] public section

noncomputable section

/-! # The launch

All eight devices run from any memory with their counters at zero; every run ends, with the arguments as they were,
every counter at zero, and each device's result one that the exchange allows. -/

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat BodyObligationRel)
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

theorem full_shares (c : Dev nD) (w : Fin cfg0.W) : (rdats m ρ 0 c).share w = fullShare := by
  show (data m ρ 0 c).share w = fullShare
  unfold Dat.share; split <;> rfl

theorem start_of (c : Dev nD) :
    iprop(Pipeline.unscopedRestP Pipeline.Prefetch.none cfg0.spec c (fun b => m ((c : Thread nD τ).loc b)) ∗ levAts L lv
        ∗ Pipeline.launchCred (fun d => OS m d 0) c ∗ prngReg c (ρ c) ∗ dealt m c)
      ⊢ |={Set.univ}=> iprop(start m c ∗ emp) := by
  unfold dealt start
  iintro ⟨-, Hlev, Hcr, -, ⟨%K, HR, HK⟩⟩
  ihave Hc := (credits m c) $$ Hcr
  imodintro
  isplitl
  · isplitl [HR HK Hc]
    · iexists K
      isplitl [HR]; · iexact HR
      iapply (ghost_of m c)
      isplitl [HK] <;> iassumption
    iexact Hlev
  · iempintro

theorem enter (c : Dev nD) :
    iprop(start m c ∗ Pipeline.prefHeld Pipeline.Prefetch.none c (fun _ => fullShare.right) (fun k => k.elim0) ∗ Pipeline.scopedRest cfg0.spec c)
      ⊢ (rdats m ρ 0 c).Φ 0 := by
  rw [show (rdats m ρ 0 c).Φ 0 = Φ₀ m c from rfl, scopedRest0_eq]
  unfold Φ₀ scratch sWhole aPts
  iintro ⟨Hs, -, Hr⟩
  isplitl [Hs] <;> iassumption

theorem leave (c : Dev nD) :
    (rdats m ρ 0 c).Φ (Fin.last cfg0.N) ⊢ iprop(unscopedSems0 c ∗ ownZero c ∗ Pipeline.scopedRest cfg0.spec c) := by
  rw [show (rdats m ρ 0 c).Φ (Fin.last cfg0.N) = Φ₁ c from rfl, scopedRest0_eq]
  unfold Φ₁ scratch sWhole aPts
  iintro ⟨Hz, Hr⟩
  ihave H := (rest_zero (F := F) c) $$ Hz
  icases H with ⟨HU, HO⟩
  isplitl [HU]; · iexact HU
  isplitl [HO] <;> iassumption

theorem low_stage (c : Dev nD) (w : Fin cfg0.W) (s : Fin (cfg0.win w).nbuf) : lv ((c : Thread nD τ), SemLoc.dma ((cfg0.win w).sem s)) () = 0 := by
  fin_cases w <;> fin_cases s <;> rfl

theorem may_wait (c : Dev nD) : (levAts L lv : sProp 𝕄) ⊢ Pipeline.RDat.cellsWaits cfgs (rdats m ρ) () 0 c :=
  Pipeline.RDat.cellsWaits_intro cfgs (rdats m ρ) () 0 c fun w s t => by
    rcases t with ⟨_ | _, ht⟩
    · exact mayWait_low m c _ (low_stage c w s) 0
    · have h := mayWait_low m c _ (low_stage c w s) 10
      rw [OS_end] at h
      exact h

/-- How a run ends. -/
def Ends (r : PUnit × MemSt nD τ sig (Elt F)) : Prop :=
  (∀ c : Dev nD, r.2.mem ((c : Thread nD τ).loc main_arg0) = m ((c : Thread nD τ).loc main_arg0)
    ∧ r.2.mem ((c : Thread nD τ).loc main_arg1) = m ((c : Thread nD τ).loc main_arg1)
    ∧ MayBe m c (r.2.mem ((c : Thread nD τ).loc main_v1)))
  ∧ r.2.sem = fun _ => 0

theorem whole_out : (cfg0.win (2 : Fin 3)).WholeAt t0_0 := by decide +kernel

/-- What the arrays may hold once the result is written back. -/
theorem arrays_end (c : Dev nD) (s : MemSt nD τ sig (Elt F))
    (h : ∀ w : Fin cfg0.W, (rdats m ρ 0 c).ArrAt w cfg0.N (s.mem ((cfg0.win w).arr.view.loc (c : Thread nD τ)))) :
    s.mem ((c : Thread nD τ).loc main_arg0) = m ((c : Thread nD τ).loc main_arg0)
      ∧ s.mem ((c : Thread nD τ).loc main_arg1) = m ((c : Thread nD τ).loc main_arg1)
      ∧ MayBe m c (s.mem ((c : Thread nD τ).loc main_v1)) := by
  refine ⟨?_, ?_, ?_⟩
  · have h0 := h (0 : Fin 3)
    rw [RDat.ArrAt_in (rdats m ρ 0 c) (0 : Fin 3) rfl] at h0
    exact h0
  · have h1 := h (1 : Fin 3)
    rw [RDat.ArrAt_in (rdats m ρ 0 c) (1 : Fin 3) rfl] at h1
    exact h1
  · obtain ⟨X, hX, hj⟩ := (h (2 : Fin 3)).emb_eq_of_wholeAt whole_out
    have hM : MayBe m c X := Dat.toRRel_leaves (dat := data m ρ 0 c) (fgt := loosely) (Rl := May m c) (w := (2 : Fin 3)) rfl hX
    have : s.mem ((c : Thread nD τ).loc main_v1) = X := funext fun j => hj j
    rw [this]
    exact hM

set_option maxRecDepth 8000 in
/-- The launch, for any values of the floating-point formats. -/
theorem run_main (hag : ∀ c, Agree m c) :
    θ_run defs (onTc (τ := τ) (main (F := F))) (s₀ m ρ) (Ends m) :=
  Pipeline.RDat.θ_run_region_owing_glob_pf (fun p => (cfgs p).toPCfg) (fun p => (cfgs p).toPCfg_adm) (rdats m ρ) () cellOf_inj (0 : Fin 1)
    winFacts0.to₀ ownSemFacts (Pipeline.PreFacts.none _) EP defs₀ 𝒱₀ m ρ main
    (hmain := fun _ => rfl)
    (hbody := body_meets m ρ hag) (hne := fun w => by fin_cases w <;> exact Nat.succ_pos _) (harr := arr_whole0) (hstage := stage_whole0)
    (hshare := full_shares m ρ) (hdistinct := winFacts0.arr_inj)
    (O₀ := fun d => OS m d 0) (howed₀ := fun _ => rfl) (howedN := fun _ => rfl)
    (L := L) (lv := lv) (hL := L_of_ne) (hwaits := may_wait m ρ)
    (G := dealt₀ m) (G' := dealt m) (u₀ := u₀)
    (hu₀ := by
      unfold u₀
      iintro Hu
      ihave H := (ownU_pair _ _) $$ Hu
      icases H with ⟨HP, HX⟩
      imod (fund_exchange m) $$ HX with HG
      imodintro
      isplitl [HP] <;> iassumption)
    (hglob := deal_all m)
    (hA := fun _ _ => rfl) (hpf := fun _ k => k.elim0)
    (X := start m) (Y := fun c => unscopedSems0 c) (Z := fun _ => iprop(emp))
    (hX := start_of m ρ) (hin := enter m ρ) (hout := leave m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun s h hs => ⟨fun c => arrays_end m ρ c s (h c).1, sem_eq_zero hs fun c => (h c).2.2⟩)

end Cert.Exchange

end
-- ==== Proof.Frames.lean ====
module

public import proofs.«01_k».proof.Proof.Main
public import proofs.«01_k».proof.Defs
public import proofs.«01_k».proof.Proof.Gen.Kernel
public import proofs.«01_k».proof.Proof.Gen.Pre_two_ways_Kernel

@[expose] public section

noncomputable section

/-! # The precondition, and the frames

Every destination is 0 or 1. So a row departs from a device exactly when its destination is the peer's place, and the
peer counts the same rows arriving. -/

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat BodyObligationRel)
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

/-- The staged operands are the argument arrays. -/
theorem xC_eq (c : Dev nD) : xC m c = m ((c : Thread nD τ).loc main_arg0) := by
  funext j
  refine congrArg (m ((c : Thread nD τ).loc main_arg0)) (funext fun a => Fin.ext ?_)
  fin_cases a <;> simp [win0_0, Pipeline.Window.index, Pipeline.Window.whole]
theorem dC_eq (c : Dev nD) : dC m c = m ((c : Thread nD τ).loc main_arg1) := by
  funext j
  refine congrArg (m ((c : Thread nD τ).loc main_arg1)) (funext fun a => Fin.ext ?_)
  fin_cases a <;> simp [win0_1, Pipeline.Window.index, Pipeline.Window.whole]

/-- Every device's destinations are 0 or 1. -/
def TwoWays : Prop := ∀ (c : Dev nD) (j : S1x512.Idx), dC m c j = 0#32 ∨ dC m c j = 1#32

/-- The predicate's test of one word. -/
def Words01 (w : BitVec 32) : Prop := BitVec.ofBool (w == 0#32) ||| BitVec.ofBool (w == 1#32) = 1#1

theorem Words01.cases {w : BitVec 32} (h : Words01 w) : w = 0#32 ∨ w = 1#32 := by
  by_cases h0 : w = 0#32
  · exact Or.inl h0
  by_cases h1 : w = 1#32
  · exact Or.inr h1
  unfold Words01 at h
  rw [beq_eq_false_iff_ne.mpr h0, beq_eq_false_iff_ne.mpr h1] at h
  exact absurd h (by decide)

theorem two_ways_of_pre
    (h : ∀ c : Dev nD, Cert.Pre_two_ways_Kernel.fn (F := F) (m ((c : Thread nD τ).loc main_arg0)) (m ((c : Thread nD τ).loc main_arg1)) = fun _ => 1#1) :
    TwoWays m := fun c j => by
  have hj := congrFun (h c) j
  rw [dC_eq]
  generalize (m ((c : Thread nD τ).loc main_arg1) : IVec S1x512 32) = d at hj ⊢
  have hj : Words01 (d j) := hj
  exact hj.cases

theorem xN_cases (c : Dev nD) : xN c = 0 ∨ xN c = 1 := by have := xN_lt c; omega

/-- A row departs exactly when its destination is the peer's place. -/
theorem departs_iff (hT : TwoWays m) (c : Dev nD) : k0_pay2 (F := F) c (dC m c) = cmpi .eq (dC m c) (broadcast S1x512 (xW (peer c))) := by
  funext j
  have key : ∀ (w : BitVec 32), w = 0#32 ∨ w = 1#32 →
      BitVec.ofBool (w != xW c) = BitVec.ofBool (w == xW (peer c)) := fun w hw => by
    rw [xW_eq, xW_eq, xN_peer]
    rcases hw with h | h <;> rcases xN_cases c with hx | hx <;> rw [h, hx] <;> decide
  have h := key (dC m c j) (hT c j)
  unfold k0_pay2 k0_pay1
  rw [shapeCast_self]
  exact h

theorem agree (hT : TwoWays m) (c : Dev nD) : Agree m c := by
  unfold Agree sW
  rw [departs_iff m hT (peer c), peer_peer]
  rfl

theorem frame_kernelIdeal : Cert.quiescent_KernelIdeal := fun m ρ h =>
  (θ_run defs _ _).mono (fun _ h => ⟨fun c => ⟨(h.1 c).1, (h.1 c).2.1⟩, h.2⟩) (run_main (F := Ideal) m ρ (agree m (two_ways_of_pre m h)))

/-- The kernel as printed and its idealized text are one program. -/
theorem same_bodies : Cert.Kernel.defs₀ (F := F) = Cert.KernelIdeal.defs₀ (F := F) := by
  unfold Cert.Kernel.defs₀ Cert.KernelIdeal.defs₀
  refine congrArg (Defs.onTc (nD := nD) (τ := τ) (sig := sig) (Val := Elt F) (Λ := Λ₀)) (funext fun l => funext fun x => ?_)
  match l, x with
  | ⟨0, _⟩, (t, s) => rfl
  | ⟨_ + 1, h⟩, _ => exact absurd h (Nat.not_lt.2 (Nat.le_add_left _ _))

theorem same_defs : Cert.Kernel.defs (F := F) = Cert.KernelIdeal.defs (F := F) := by
  unfold Cert.Kernel.defs Cert.KernelIdeal.defs
  rw [same_bodies]
  rfl

theorem frame_kernel : Cert.quiescent_Kernel := fun m ρ h => by
  rw [same_defs]
  exact (θ_run defs _ _).mono (fun _ h => ⟨fun c => ⟨(h.1 c).1, (h.1 c).2.1⟩, h.2⟩) (run_main (F := Bits) m ρ (agree m (two_ways_of_pre m h)))

end Cert.Exchange

end
-- ==== Proof.Reference.lean ====
module

public import proofs.«01_k».proof.Defs
public import proofs.«01_k».proof.Proof.Gen.ReferenceIdeal
public import proofs.«01_k».proof.Proof.Gen.ReferenceIdeal.Run
public import proofs.«01_k».proof.Proof.Gen.Pre_two_ways_ReferenceIdeal
public import Idealize.ShloMosaic.Lib.Quiescent

@[expose] public section

noncomputable section

/-! # The reference runs

It runs from any memory, leaves its arguments as they were, and has no semaphore. -/

namespace Cert.Exchange

open Idealize.ShloMosaic Idealize.ShloMosaic.TcCoe Idealize.SL.Sem

theorem frame_reference : Cert.quiescent_ReferenceIdeal := fun m g _ =>
  (θ_run _ _ _).mono (fun r h => ⟨fun c => ⟨(h c).2.1, (h c).2.2⟩, sem_eq_zero_of_no_sems rfl r.2⟩) (Cert.ReferenceIdeal.Value.run (F := Ideal) m g)

theorem frame_reference_two_ways : Cert.quiescent_ReferenceIdeal_pre_two_ways_ReferenceIdeal := fun m g _ =>
  frame_reference m g trivial

end Cert.Exchange

end
-- ==== Proof.Order.lean ====
module

public import Idealize.ShloMosaic.Lib.SortPrefix

@[expose] public section

noncomputable section

/-! # A stable sort puts each position where its predecessors end

The position of an element after a stable sort by a key is the number of elements that precede it, a smaller key first,
of equal keys the earlier position first. -/

namespace Cert.Exchange

open Idealize.ShloMosaic

variable {n : ℕ} (key : Fin n → BitVec 32)

/-- A key before another key. -/
def less (k k' : Fin n) : Bool := (key k).slt (key k')

/-- A smaller key, or the same key and an earlier position. -/
def precedes (k k' : Fin n) : Bool := (key k).slt (key k') || (decide (key k = key k') && decide (k < k'))

theorem precedes_strict : StrictTotalBefore (precedes key) :=
  StrictTotalBefore.of_key_then_position (fun a b : BitVec 32 => a.slt b) key
    (fun a => by rw [BitVec.slt_eq_decide]; simp)
    (fun a b c hab hbc => by rw [BitVec.slt_eq_decide, decide_eq_true_eq] at hab hbc ⊢; omega)
    (fun a b => by
      rw [BitVec.slt_eq_decide, BitVec.slt_eq_decide, decide_eq_true_eq, decide_eq_true_eq]
      rcases lt_trichotomy a.toInt b.toInt with h | h | h
      · exact Or.inl h
      · exact Or.inr (Or.inl (BitVec.eq_of_toInt_eq h))
      · exact Or.inr (Or.inr h))

/-- On positions in order, sorting by the key alone keeps equal keys in order. -/
theorem stable_by_position (l : List (Fin n)) (hl : l.Pairwise (· < ·)) : stableSort (less key) l = stableSort (precedes key) l := by
  induction l with
  | nil => rfl
  | cons a l ih =>
    rw [List.pairwise_cons] at hl
    unfold stableSort
    rw [ih hl.2]
    refine insertBefore_congr _ _ a _ fun b hb => ?_
    have hb' : b ∈ l := (perm_stableSort _ l).mem_iff.mp hb
    have hab := hl.1 b hb'
    unfold less precedes
    rw [decide_eq_false (p := b < a) (by omega), Bool.and_false, Bool.or_false]

/-- How many positions precede a position. -/
def pos (q : Fin n) : ℕ := (Finset.univ.filter fun k : Fin n => precedes key k q = true).card

theorem pos_mono {q q' : Fin n} (h : precedes key q q' = true) : pos key q < pos key q' := by
  refine Finset.card_lt_card ⟨fun k hk => ?_, fun hsub => ?_⟩
  · simp only [Finset.mem_filter, Finset.mem_univ, true_and] at hk ⊢
    exact (precedes_strict key).trans _ _ _ hk h
  · have : q ∈ Finset.univ.filter fun k : Fin n => precedes key k q = true :=
      hsub (by simp only [Finset.mem_filter, Finset.mem_univ, true_and]; exact h)
    simp only [Finset.mem_filter, Finset.mem_univ, true_and] at this
    rw [(precedes_strict key).irrefl q] at this
    exact absurd this (by decide)

theorem pos_lt (q : Fin n) : pos key q < n := by
  have h : (Finset.univ.filter fun k : Fin n => precedes key k q = true) ⊂ (Finset.univ : Finset (Fin n)) := by
    refine ⟨Finset.filter_subset _ _, fun hsub => ?_⟩
    have := hsub (Finset.mem_univ q)
    simp only [Finset.mem_filter, Finset.mem_univ, true_and] at this
    rw [(precedes_strict key).irrefl q] at this
    exact absurd this (by decide)
  have := Finset.card_lt_card h
  rwa [Finset.card_univ, Fintype.card_fin] at this

/-- The same as a position. -/
def posF (q : Fin n) : Fin n := ⟨pos key q, pos_lt key q⟩

theorem posF_injective : Function.Injective (posF key) := fun q q' h => by
  by_contra hne
  have h' : pos key q = pos key q' := congrArg Fin.val h
  rcases (precedes_strict key).total q q' hne with l | l
  · have := pos_mono key l; omega
  · have := pos_mono key l; omega

theorem posF_bijective : Function.Bijective (posF key) := Finite.injective_iff_bijective.mp (posF_injective key)

/-- The sort's entry at a position's number of predecessors comes from that position. -/
theorem sortedFrom_pos (q : Fin n) : sortedFrom (less key) (posF key q) = q := by
  have e : sortedFrom (less key) = sortedFrom (precedes key) := by
    funext k
    unfold sortedFrom
    have hl : sortPositions n (less key) = sortPositions n (precedes key) := stable_by_position key _ (List.pairwise_lt_finRange n)
    rw [List.get_of_eq hl]
    rfl
  rw [e]
  let E := Equiv.ofBijective (posF key) (posF_bijective key)
  have hE (i) : posF key (E.symm i) = i := E.apply_symm_apply i
  have h := (precedes_strict key).sortedFrom_eq_of_prefix (le_refl n) (fun i => E.symm i) E.symm.injective
    (fun i j hij => by
      by_contra hne
      have := pos_mono key (Bool.eq_true_of_not_eq_false hne)
      have h1 : pos key (E.symm j) = j.val := congrArg Fin.val (hE j)
      have h2 : pos key (E.symm i) = i.val := congrArg Fin.val (hE i)
      have : i.val < j.val := hij
      omega)
    (fun i p hp => absurd (E.symm_apply_apply p) (hp (E p))) (posF key q)
  exact h.trans (E.symm_apply_apply q)

end Cert.Exchange

end
-- ==== Proof.Sorted.lean ====
module

public import proofs.«01_k».proof.Proof.Order
public import proofs.«01_k».proof.Proof.Gen.ReferenceIdeal
public import proofs.«01_k».proof.Proof.Gen.ReferenceIdeal.Run
public import Idealize.ShloMosaic.PureOps.Ideal
public import Idealize.ShloMosaic.Lib.SortFacts
public import Idealize.ShloMosaic.Lib.Routing.Ops

@[expose] public section

noncomputable section

/-! # The reference's value

Its result has each row of the array at the position of the row's destination in the stable order. -/

namespace Cert.Exchange

open Cert.ReferenceIdeal Cert.ReferenceIdeal.Gen
open Idealize.ShloMosaic
open Idealize.ShloMosaic.TcCoe
open Idealize.ShloMosaic.ValueIdx

/-- The destinations of all rows, in the order of the rows. -/
def key (d : IVec S2x512 32) (q : Fin 1024) : BitVec 32 := d (ix2 (⟨q.val / 512, by omega⟩ : Fin 2) (⟨q.val % 512, by omega⟩ : Fin 512))

/-- The reference's order. -/
def order (d : IVec S2x512 32) : IVec S1024 32 :=
  (Host.sort2 S1024 0 comparator_i32_i32_d0 (shapeCast _ d shapeCasts_S2x512_S1024) (iotaInDim S1024 32 0)).2

/-- The reference's result. -/
def sorted (x : FVec Ideal S1024x256 .f32) (d : IVec S2x512 32) : FVec Ideal S1024x256 .f32 :=
  Host.gather gather_S1024x256_S1024x1_S1024x256_1_0_n_n_0_1_1256 x
    (broadcastInDim S1024x1 ![0] bcast_S1024_S1024x1_0
      (select (cmpi .slt (order d) (broadcastInDim S1024 ![] bcast_S_S1024 (constantI S_ 32 0#32)))
        (addi (order d) (broadcastInDim S1024 ![] bcast_S_S1024 (constantI S_ 32 1024#32))) (order d)))

theorem flat_at (d : IVec S2x512 32) (q : Fin 1024) : shapeCast S1024 d shapeCasts_S2x512_S1024 (Shape.Idx.ofFin q) = key d q := by
  unfold key
  refine shapeCast_apply d _ _ _ ?_
  rw [Shape.rowMajor_val_two, Shape.rowMajor_val_one]
  show q.val / 512 * 512 + q.val % 512 = q.val
  omega

/-- The comparison of two positions by their destinations. -/
def earlier (d : IVec S2x512 32) (j : S1024.Idx) (k k' : Fin 1024) : Bool :=
  comparator_i32_i32_d0
    (shapeCast S1024 d shapeCasts_S2x512_S1024 (j.along (0 : Fin 1) k), iotaInDim S1024 32 0 (j.along (0 : Fin 1) k))
    (shapeCast S1024 d shapeCasts_S2x512_S1024 (j.along (0 : Fin 1) k'), iotaInDim S1024 32 0 (j.along (0 : Fin 1) k')) == 1#1

theorem along_at (j : S1024.Idx) (k : Fin 1024) : j.along (0 : Fin 1) k = (Shape.Idx.ofFin k : S1024.Idx) := Shape.Idx.along_rank1 j k

theorem earlier_eq (d : IVec S2x512 32) (j : S1024.Idx) : earlier d j = less (key d) := by
  funext k k'
  unfold earlier
  rw [along_at, along_at, flat_at, flat_at]
  show (BitVec.ofBool ((key d k).slt (key d k')) == 1#1) = (key d k).slt (key d k')
  cases (key d k).slt (key d k') <;> rfl

/-- The position that the order has at an index. -/
def source (d : IVec S2x512 32) (j : S1024.Idx) : Fin 1024 := sortedFrom (n := 1024) (earlier d j) (j 0)

theorem order_sorted (d : IVec S2x512 32) (j : S1024.Idx) :
    order d j = iotaInDim S1024 32 0 (j.along (0 : Fin 1) (source d j)) := by
  unfold order Host.sort2
  rw [dif_pos (show (0 : ℕ) < S1024.rank by decide)]
  rfl

theorem iota_at (p : Fin 1024) : iotaInDim S1024 32 0 (Shape.Idx.ofFin p) = BitVec.ofNat 32 p.val := rfl

theorem order_at (d : IVec S2x512 32) (i : Fin 1024) : order d (Shape.Idx.ofFin i) = BitVec.ofNat 32 (sortedFrom (less (key d)) i).val := by
  refine (order_sorted d _).trans ((congrArg (iotaInDim S1024 32 0) (along_at _ _)).trans ((iota_at _).trans ?_))
  unfold source
  rw [earlier_eq]
  rfl

theorem sorted_at (x : FVec Ideal S1024x256 .f32) (d : IVec S2x512 32) (q : Fin 1024) (l : Fin 256) :
    sorted x d (ix2 (posF (key d) q) l) = x (ix2 q l) := by
  unfold sorted
  refine Routing.gather_row _ rfl rfl rfl rfl rfl x _ _ l q ?_ (by decide)
  have ho := order_at d (posF (key d) q)
  rw [sortedFrom_pos] at ho
  have hq := q.isLt
  refine (Routing.bcCol _ _ _).trans ?_
  have hi : (Shape.Idx.ofFin (posF (key d) q) : S1024.Idx) = ix1 (posF (key d) q) := by
    funext a
    match a with
    | ⟨0, _⟩ => rfl
  rw [hi] at ho
  show (if BitVec.ofBool ((order d (ix1 (posF (key d) q))).slt 0#32) = 1#1 then order d (ix1 (posF (key d) q)) + 1024#32 else order d (ix1 (posF (key d) q))) = _
  rw [ho]
  have hn : (BitVec.ofNat 32 q.val).slt 0#32 = false := by
    rw [BitVec.slt_eq_decide, decide_eq_false_iff_not]
    have : (BitVec.ofNat 32 q.val).toInt = q.val := by rw [BitVec.toInt_eq_toNat_of_lt (by rw [BitVec.toNat_ofNat]; omega), BitVec.toNat_ofNat]; omega
    rw [this]
    show ¬ (q.val : ℤ) < 0
    omega
  rw [hn]
  rfl

end Cert.Exchange

end
-- ==== Proof.Halves.lean ====
module

public import proofs.«01_k».proof.Proof.Sorted
public import proofs.«01_k».proof.Proof.Gen.On_balanced
public import Idealize.ShloMosaic.Lib.IndicatorCount

@[expose] public section

noncomputable section

/-! # Positions, half by half

The rows lie in two halves, one per place on the exchanged axis. With destinations 0 and 1, and as many rows for one as
for the other, a row's position in the order is counted within the halves. -/

namespace Cert.Exchange

open Idealize.ShloMosaic
open Idealize.ShloMosaic.ValueIdx

abbrev Dests : Type := IVec (⟨2, ![2, 512]⟩ : Shape) 32

/-- Row `k` of half `b`. -/
def row (b : Fin 2) (k : Fin 512) : Fin 1024 := ⟨512 * b.val + k.val, by omega⟩

theorem row_surj (q : Fin 1024) : ∃ b k, row b k = q :=
  ⟨⟨q.val / 512, by omega⟩, ⟨q.val % 512, by omega⟩, Fin.ext (by show 512 * (q.val / 512) + q.val % 512 = q.val; omega)⟩

theorem key_row (d : Dests) (b : Fin 2) (k : Fin 512) : key d (row b k) = d (ix2 b k) := by
  unfold key row
  have hb : (512 * b.val + k.val) / 512 = b.val := by omega
  have hk : (512 * b.val + k.val) % 512 = k.val := by omega
  exact congrArg d (congrArg₂ ix2 (Fin.ext hb) (Fin.ext hk))

theorem row_lt (b b' : Fin 2) (k k' : Fin 512) : row b k < row b' k' ↔ b < b' ∨ (b = b' ∧ k < k') := by
  rw [Fin.lt_def, Fin.lt_def, Fin.lt_def, Fin.ext_iff]
  show 512 * b.val + k.val < 512 * b'.val + k'.val ↔ _
  omega

/-- Counting rows is counting them in each half. -/
theorem halves (P : Fin 1024 → Prop) [DecidablePred P] :
    (Finset.univ.filter P).card = (Finset.univ.filter fun k : Fin 512 => P (row 0 k)).card + (Finset.univ.filter fun k : Fin 512 => P (row 1 k)).card := by
  have h : (Finset.univ.filter P) = (Finset.univ.filter fun k : Fin 512 => P (row 0 k)).image (row 0) ∪ (Finset.univ.filter fun k : Fin 512 => P (row 1 k)).image (row 1) := by
    ext q
    simp only [Finset.mem_filter, Finset.mem_univ, true_and, Finset.mem_union, Finset.mem_image]
    constructor
    · intro hq
      obtain ⟨b, k, rfl⟩ := row_surj q
      fin_cases b
      · exact Or.inl ⟨k, hq, rfl⟩
      · exact Or.inr ⟨k, hq, rfl⟩
    · rintro (⟨k, hk, rfl⟩ | ⟨k, hk, rfl⟩) <;> exact hk
  have inj : ∀ b, Function.Injective (row b) := fun b k k' e => by
    have : 512 * b.val + k.val = 512 * b.val + k'.val := congrArg Fin.val e
    exact Fin.ext (by omega)
  rw [h, Finset.card_union_of_disjoint, Finset.card_image_of_injective _ (inj 0), Finset.card_image_of_injective _ (inj 1)]
  rw [Finset.disjoint_left]
  intro q h0 h1
  obtain ⟨k, -, rfl⟩ := Finset.mem_image.mp h0
  obtain ⟨k', -, e⟩ := Finset.mem_image.mp h1
  have : 512 * 1 + k'.val = 512 * 0 + k.val := congrArg Fin.val e
  omega

/-- The rows of a half with a destination. -/
def tot (d : Dests) (p : BitVec 32) (b : Fin 2) : ℕ := (Finset.univ.filter fun k : Fin 512 => d (ix2 b k) = p).card
/-- Those before a row. -/
def bef (d : Dests) (p : BitVec 32) (b : Fin 2) (k : Fin 512) : ℕ := (Finset.univ.filter fun k' : Fin 512 => d (ix2 b k') = p ∧ k' < k).card

theorem bef_lt (d : Dests) (p : BitVec 32) (b : Fin 2) (k : Fin 512) (h : d (ix2 b k) = p) : bef d p b k < tot d p b := by
  refine Finset.card_lt_card ⟨fun k' hk => ?_, fun hs => ?_⟩
  · simp only [Finset.mem_filter, Finset.mem_univ, true_and] at hk ⊢
    exact hk.1
  · have : k ∈ Finset.univ.filter fun k' : Fin 512 => d (ix2 b k') = p ∧ k' < k := hs (by simp only [Finset.mem_filter, Finset.mem_univ, true_and]; exact h)
    simp only [Finset.mem_filter, Finset.mem_univ, true_and] at this
    exact absurd this.2 (lt_irrefl _)

theorem bound (d : Dests) (b : Fin 2) : tot d 0#32 b ≤ 512 := (Finset.card_filter_le _ _).trans (by simp)

/-- Every destination is 0 or 1. -/
def Binary (d : Dests) : Prop := ∀ b k, d (ix2 b k) = 0#32 ∨ d (ix2 b k) = 1#32

theorem precedes_iff (d : Dests) (b b' : Fin 2) (k k' : Fin 512) :
    precedes (key d) (row b' k') (row b k) = true
      ↔ (d (ix2 b' k')).slt (d (ix2 b k)) = true ∨ (d (ix2 b' k') = d (ix2 b k) ∧ (b' < b ∨ (b' = b ∧ k' < k))) := by
  unfold precedes
  rw [key_row, key_row, Bool.or_eq_true, Bool.and_eq_true, decide_eq_true_eq, decide_eq_true_eq, row_lt]

variable {d : Dests} (hT : Binary d)

include hT

theorem precedes_zero (b b' : Fin 2) (k k' : Fin 512) (h : d (ix2 b k) = 0#32) :
    precedes (key d) (row b' k') (row b k) = true ↔ d (ix2 b' k') = 0#32 ∧ (b' < b ∨ (b' = b ∧ k' < k)) := by
  rw [precedes_iff, h]
  rcases hT b' k' with h' | h' <;> rw [h'] <;> simp

theorem precedes_one (b b' : Fin 2) (k k' : Fin 512) (h : d (ix2 b k) = 1#32) :
    precedes (key d) (row b' k') (row b k) = true ↔ d (ix2 b' k') = 0#32 ∨ (d (ix2 b' k') = 1#32 ∧ (b' < b ∨ (b' = b ∧ k' < k))) := by
  rw [precedes_iff, h]
  rcases hT b' k' with h' | h' <;> rw [h'] <;> simp

/-- Every row has one destination or the other. -/
theorem tot_add (b : Fin 2) : tot d 0#32 b + tot d 1#32 b = 512 := by
  unfold tot
  rw [← Finset.card_union_of_disjoint]
  · have : (Finset.univ.filter fun k : Fin 512 => d (ix2 b k) = 0#32) ∪ (Finset.univ.filter fun k : Fin 512 => d (ix2 b k) = 1#32) = Finset.univ := by
      ext k
      simp only [Finset.mem_filter, Finset.mem_univ, true_and, Finset.mem_union, iff_true]
      exact hT b k
    rw [this, Finset.card_univ, Fintype.card_fin]
  · rw [Finset.disjoint_left]
    intro k h0 h1
    simp only [Finset.mem_filter, Finset.mem_univ, true_and] at h0 h1
    rw [h0] at h1
    exact absurd h1 (by decide)

theorem pos_zero_first (k : Fin 512) (h : d (ix2 0 k) = 0#32) : pos (key d) (row 0 k) = bef d 0#32 0 k := by
  unfold pos bef
  rw [halves]
  simp only [precedes_zero hT 0 _ k _ h]
  simp

theorem pos_zero_second (k : Fin 512) (h : d (ix2 1 k) = 0#32) : pos (key d) (row 1 k) = tot d 0#32 0 + bef d 0#32 1 k := by
  unfold pos bef tot
  rw [halves]
  simp only [precedes_zero hT 1 _ k _ h]
  simp

/-- A row for place 1 comes after every row for place 0. -/
theorem split_one (b b' : Fin 2) (k : Fin 512) (h : d (ix2 b k) = 1#32) :
    (Finset.univ.filter fun k' : Fin 512 => precedes (key d) (row b' k') (row b k) = true).card
      = tot d 0#32 b' + (Finset.univ.filter fun k' : Fin 512 => d (ix2 b' k') = 1#32 ∧ (b' < b ∨ (b' = b ∧ k' < k))).card := by
  unfold tot
  simp only [precedes_one hT b b' k _ h]
  rw [Finset.filter_or, Finset.card_union_of_disjoint]
  rw [Finset.disjoint_left]
  intro k' h0 h1
  simp only [Finset.mem_filter, Finset.mem_univ, true_and] at h0 h1
  rw [h0] at h1
  exact absurd h1.1 (by decide)

theorem pos_one_first (k : Fin 512) (h : d (ix2 0 k) = 1#32) : pos (key d) (row 0 k) = (tot d 0#32 0 + tot d 0#32 1) + bef d 1#32 0 k := by
  unfold pos
  rw [halves, split_one hT 0 0 k h, split_one hT 0 1 k h]
  unfold bef
  simp
  omega

theorem pos_one_second (k : Fin 512) (h : d (ix2 1 k) = 1#32) :
    pos (key d) (row 1 k) = (tot d 0#32 0 + tot d 0#32 1) + (tot d 1#32 0 + bef d 1#32 1 k) := by
  unfold pos
  rw [halves, split_one hT 1 0 k h, split_one hT 1 1 k h]
  unfold bef tot
  simp
  omega

omit hT in
/-- The mask holds only where as many rows are for one place as for the other. -/
theorem balanced_iff (x : FVec Ideal (⟨2, ![1024, 256]⟩ : Shape) .f32) (i : (⟨2, ![1024, 256]⟩ : Shape).Idx)
    (h : Cert.On_balanced.fn (F := Ideal) x d i = 1#1) : tot d 0#32 0 + tot d 0#32 1 = 512 := by
  have hp : ∀ w : BitVec 32, BitVec.ofBool (w == 512#32) = 1#1 → w = 512#32 := fun w hw => by
    by_contra hne
    rw [beq_eq_false_iff_ne.mpr hne] at hw
    exact absurd hw (by decide)
  have h' := hp _ h
  have hz : ∀ j : Cert.On_balanced.S2x512.Idx, cmpi .eq d (broadcastInDim Cert.On_balanced.S2x512 ![] Cert.On_balanced.Facts.bcast_S_S2x512 (constantI Cert.On_balanced.S_ 32 0#32)) j = 1#1 ↔ d j = 0#32 := fun j => by
    show BitVec.ofBool (d j == 0#32) = 1#1 ↔ d j = 0#32
    by_cases e : d j = 0#32
    · rw [e]; decide
    · rw [beq_eq_false_iff_ne.mpr e]; simp [e]
  have hfold := (Host.reduce_eq_fold (t := Cert.On_balanced.S_) IntOp.addi
    (extui 32 (cmpi .eq d (broadcastInDim Cert.On_balanced.S2x512 ![] Cert.On_balanced.Facts.bcast_S_S2x512 (constantI Cert.On_balanced.S_ 32 0#32))) Cert.On_balanced.Facts.natLt_1_32)
    (constantI Cert.On_balanced.S_ 32 0#32) Cert.On_balanced.Facts.reducesTo_S2x512_S_d0_1 Cert.On_balanced.Facts.h_S_ (fun a => a.elim0)).symm.trans ((congrArg (Host.reduce IntOp.addi _ _ _ _) (funext fun a => a.elim0)).trans h')
  rw [Finset.filter_true_of_mem (fun i _ => funext fun a => a.elim0)] at hfold
  have hcard := (IndicatorCount.fold_addi_setWidth_eq_card (w := 32) _ Finset.univ).symm.trans hfold
  simp only [hz] at hcard
  have htot : (Finset.univ.filter fun j : Cert.On_balanced.S2x512.Idx => d j = 0#32).card = tot d 0#32 0 + tot d 0#32 1 := by
    unfold tot
    rw [Finset.card_filter, Finset.card_filter, Finset.card_filter, sum_idx2, Fin.sum_univ_two]
  have h0 := bound d 0
  have h1 := bound d 1
  rw [htot] at hcard
  have hn := congrArg BitVec.toNat hcard
  rw [BitVec.toNat_ofNat] at hn
  have : (512#32).toNat = 512 := rfl
  rw [this] at hn
  omega

end Cert.Exchange

end
-- ==== Proof.Prefix.lean ====
module

public import proofs.«01_k».proof.Proof.Cells
public import Idealize.ShloMosaic.Lib.MatmulPlain
public import Idealize.ShloMosaic.Lib.Pipeline.Value

@[expose] public section

noncomputable section

/-! # Places among the marked rows

Over the reals the kernel's product of a mask with the triangle of ones counts the marked rows up to each row, and its
product of a table of zeros and ones with the rows picks rows. -/

namespace Cert.Exchange

open Cert.KernelIdeal Cert.KernelIdeal.Gen
open Idealize.ShloMosaic
open Idealize.ShloMosaic.ValueIdx
open scoped BigOperators

/-- How many marked rows come before row `j`. -/
def before (v : IVec S1x512 1) (j : Fin 512) : ℕ := (Finset.univ.filter fun k : Fin 512 => v (at0 k) = 1#1 ∧ k < j).card

/-- How many marked rows there are up to row `j`, itself included. -/
def upto (v : IVec S1x512 1) (j : Fin 512) : ℕ := (Finset.univ.filter fun k : Fin 512 => v (at0 k) = 1#1 ∧ k ≤ j).card

theorem before_le (v : IVec S1x512 1) (j : Fin 512) : before v j ≤ j.val := by
  refine (Finset.card_le_card (t := Finset.univ.filter fun k : Fin 512 => k < j) fun k hk => ?_).trans ?_
  · simp only [Finset.mem_filter, Finset.mem_univ, true_and] at hk ⊢
    exact hk.2
  · rw [Finset.filter_gt_eq_Iio, Fin.card_Iio]

theorem upto_le (v : IVec S1x512 1) (j : Fin 512) : upto v j ≤ 512 := (Finset.card_filter_le _ _).trans (by simp)

/-- A marked row is one more than those before it. -/
theorem upto_marked (v : IVec S1x512 1) (j : Fin 512) (h : v (at0 j) = 1#1) : upto v j = before v j + 1 := by
  unfold upto before
  have e : (Finset.univ.filter fun k : Fin 512 => v (at0 k) = 1#1 ∧ k ≤ j)
      = insert j (Finset.univ.filter fun k : Fin 512 => v (at0 k) = 1#1 ∧ k < j) := by
    ext k
    simp only [Finset.mem_filter, Finset.mem_univ, true_and, Finset.mem_insert]
    constructor
    · rintro ⟨hk, hkj⟩
      rcases eq_or_lt_of_le hkj with e | l
      · exact Or.inl e
      · exact Or.inr ⟨hk, l⟩
    · rintro (rfl | ⟨hk, l⟩)
      · exact ⟨h, le_refl _⟩
      · exact ⟨hk, l.le⟩
  rw [e, Finset.card_insert_of_notMem (by simp)]

/-- The marked rows before a marked one are fewer than all. -/
theorem before_lt_cnt (v : IVec S1x512 1) (j : Fin 512) (h : v (at0 j) = 1#1) : before v j < cnt v := by
  have := upto_marked v j h
  have hle : upto v j ≤ cnt v := Finset.card_le_card fun k hk => by
    simp only [Finset.mem_filter, Finset.mem_univ, true_and] at hk ⊢
    exact hk.1
  omega

/-- The marked rows up to a row that is not marked are those before it. -/
theorem upto_unmarked (v : IVec S1x512 1) (j : Fin 512) (h : v (at0 j) ≠ 1#1) : upto v j = before v j := by
  unfold upto before
  congr 1
  ext k
  simp only [Finset.mem_filter, Finset.mem_univ, true_and]
  constructor
  · rintro ⟨hk, hkj⟩
    rcases eq_or_lt_of_le hkj with e | l
    · exact absurd (e ▸ hk) h
    · exact ⟨hk, l⟩
  · rintro ⟨hk, l⟩
    exact ⟨hk, l.le⟩

/-- The rows marked by one mask and those marked by its opposite. -/
theorem before_add (v u : IVec S1x512 1) (hvu : ∀ k, v (at0 k) = 1#1 ↔ ¬ u (at0 k) = 1#1) (j : Fin 512) :
    before v j + before u j = j.val := by
  have e : before v j = ((Finset.univ.filter fun k : Fin 512 => k < j).filter fun k => ¬ u (at0 k) = 1#1).card := by
    unfold before
    rw [Finset.filter_filter]
    congr 1
    ext k
    simp only [Finset.mem_filter, Finset.mem_univ, true_and]
    rw [hvu k, and_comm]
  have e' : before u j = ((Finset.univ.filter fun k : Fin 512 => k < j).filter fun k => u (at0 k) = 1#1).card := by
    unfold before
    rw [Finset.filter_filter]
    congr 1
    ext k
    simp only [Finset.mem_filter, Finset.mem_univ, true_and]
    rw [and_comm]
  have hs := Finset.card_filter_add_card_filter_not (s := Finset.univ.filter fun k : Fin 512 => k < j) fun k => u (at0 k) = 1#1
  have hj : (Finset.univ.filter fun k : Fin 512 => k < j).card = j.val := by rw [Finset.filter_gt_eq_Iio, Fin.card_Iio]
  omega

theorem cnt_add (v u : IVec S1x512 1) (hvu : ∀ k, v (at0 k) = 1#1 ↔ ¬ u (at0 k) = 1#1) : cnt v + cnt u = 512 := by
  have e : cnt v = ((Finset.univ : Finset (Fin 512)).filter fun k => ¬ u (at0 k) = 1#1).card := by
    unfold cnt
    congr 1
    ext k
    simp only [Finset.mem_filter, Finset.mem_univ, true_and]
    rw [hvu k]
  have hs := Finset.card_filter_add_card_filter_not (s := (Finset.univ : Finset (Fin 512))) fun k => u (at0 k) = 1#1
  have hj : (Finset.univ : Finset (Fin 512)).card = 512 := by simp
  unfold cnt at e ⊢
  omega

/-! ## The two products -/

/-- A bit as a real. -/
theorem bit_real (b : BitVec 1) : (((b.setWidth 32).toInt : ℝ) : EReal) = if b = 1#1 then 1 else 0 := by
  have hb : b = 0#1 ∨ b = 1#1 := by revert b; decide
  rcases hb with rfl | rfl
  · have h : ((0#1 : BitVec 1).setWidth 32).toInt = 0 := by decide
    rw [h]; simp
  · have h : ((1#1 : BitVec 1).setWidth 32).toInt = 1 := by decide
    rw [h]; simp

theorem sitofp_bit {s : Shape} (v : IVec s 1) (h) (i : s.Idx) :
    (sitofp .f32 (extui 32 v h) : FVec Ideal s .f32) i = if v i = 1#1 then 1 else 0 := bit_real (v i)

theorem zero_acc {s : Shape} (i : s.Idx) : (constant s .f32 0x00000000#32 : FVec Ideal s .f32) i = 0 := by
  show ((Idealize.ShloMosaic.FloatOps.ofBits (F := Ideal) .f32 0x00000000#32 : Ideal .f32)) = (0 : EReal)
  simp

theorem iota0_at (r k : Fin 512) : iota0 (ix2 r k) = BitVec.ofNat 32 r.val := iota_single_apply .tc S512x512 32 0 _ _
theorem iota1_at (r k : Fin 512) : iota1 (ix2 r k) = BitVec.ofNat 32 k.val := iota_single_apply .tc S512x512 32 1 _ _

theorem toInt_small {n : ℕ} (h : n < 2 ^ 31) : (BitVec.ofNat 32 n).toInt = n := by
  rw [BitVec.toInt_eq_toNat_cond, BitVec.toNat_ofNat, Nat.mod_eq_of_lt (by omega), if_pos (by omega)]

theorem ofBool_one {b : Bool} : BitVec.ofBool b = 1#1 ↔ b = true := by revert b; decide

/-- The test "row `k` is not after row `j`". -/
theorem triangle (k j : Fin 512) :
    cmpi .sle iota0 (iota .tc S512x512 32 [1] iota_S512x512_d1_w32) (ix2 k j) = 1#1 ↔ k ≤ j := by
  show BitVec.ofBool ((iota0 (ix2 k j)).sle (iota1 (ix2 k j))) = 1#1 ↔ _
  have hk := k.isLt
  have hj := j.isLt
  rw [ofBool_one, iota0_at, iota1_at, BitVec.sle_eq_decide, toInt_small (by omega), toInt_small (by omega), decide_eq_true_eq, Fin.le_def]
  omega

theorem cum_real (v : IVec S1x512 1) (w : FVec Ideal S1x512 .f32) (hw : ∀ k, w (at0 k) = if v (at0 k) = 1#1 then 1 else 0) (j : Fin 512) :
    k0_pay4 w iota0 (at0 j) = ((upto v j : ℕ) : EReal) := by
  unfold k0_pay4
  refine (Ideal.matmul_plain_apply (M := 1) (K := 512) (N := 512) none w _ _ (0 : Fin 1) j).trans ?_
  rw [zero_acc, zero_add]
  have e : ∀ k : Fin 512, w (ix2 (0 : Fin 1) k) * (sitofp .f32 (extui 32 (cmpi .sle iota0 (iota .tc S512x512 32 [1] iota_S512x512_d1_w32)) natLt_1_32) : FVec Ideal S512x512 .f32) (ix2 k j)
      = if v (at0 k) = 1#1 ∧ k ≤ j then 1 else 0 := fun k => by
    rw [sitofp_bit, hw k]
    have ht := triangle k j
    by_cases h1 : v (at0 k) = 1#1
    · by_cases h2 : k ≤ j
      · rw [if_pos h1, if_pos (ht.mpr h2), if_pos ⟨h1, h2⟩, one_mul]
      · rw [if_pos h1, if_neg (fun h => h2 (ht.mp h)), if_neg (fun h => h2 h.2), mul_zero]
    · rw [if_neg h1, zero_mul, if_neg (fun h : v (at0 k) = 1#1 ∧ k ≤ j => h1 h.1)]
  rw [Finset.sum_congr rfl fun k _ => e k, Finset.sum_boole]
  rfl

/-- The count, converted to a word. -/
theorem word_of_count {n : ℕ} (h : n ≤ 512) : Ideal.fptosi 32 ((n : ℕ) : EReal) = BitVec.ofNat 32 n := by
  have hc : ((n : ℕ) : EReal) = (((n : ℝ)) : EReal) := by simp
  rw [hc, Ideal.fptosi, Ideal.toIntClamped_coe, if_pos (by positivity), Int.floor_natCast]
  have : max (-((2 ^ (32 - 1) : ℕ) : ℤ)) (min (((2 ^ (32 - 1) : ℕ) : ℤ) - 1) (n : ℤ)) = (n : ℤ) := by
    norm_num; omega
  rw [this]
  simp

theorem cum_word (v : IVec S1x512 1) (w : FVec Ideal S1x512 .f32) (hw : ∀ k, w (at0 k) = if v (at0 k) = 1#1 then 1 else 0) (j : Fin 512) :
    (fptosi 32 (k0_pay4 w iota0) : IVec S1x512 32) (at0 j) = BitVec.ofNat 32 (upto v j) := by
  show Ideal.fptosi 32 (k0_pay4 w iota0 (at0 j)) = _
  rw [cum_real v w hw j, word_of_count (upto_le v j)]

/-- The product with a table of zeros and ones that has one single one in a row picks one row. -/
theorem pick (t : IVec S512x512 1) (x : FVec Ideal S512x256 .f32) (r k : Fin 512) (h : ∀ k', t (ix2 r k') = 1#1 ↔ k' = k) (l : Fin 256) :
    (matmul dot_S512x512_S512x256_S512x256_1_0_0_1_n_n none (sitofp .f32 (extui 32 t natLt_1_32) : FVec Ideal S512x512 .f32) x
      (constant S512x256 .f32 0x00000000#32) : FVec Ideal S512x256 .f32) (ix2 r l) = x (ix2 k l) := by
  refine (Ideal.matmul_plain_apply (M := 512) (K := 512) (N := 256) none _ _ _ r l).trans ?_
  rw [zero_acc, zero_add]
  have e : ∀ k' : Fin 512, (sitofp .f32 (extui 32 t natLt_1_32) : FVec Ideal S512x512 .f32) (ix2 r k') * x (ix2 k' l) = if k' = k then x (ix2 k l) else 0 := fun k' => by
    rw [sitofp_bit]
    by_cases h1 : k' = k
    · rw [if_pos ((h k').mpr h1), if_pos h1, one_mul, h1]
    · rw [if_neg (fun h2 => h1 ((h k').mp h2)), if_neg h1, zero_mul]
  rw [Finset.sum_congr rfl fun k' _ => e k', Finset.sum_ite_eq' _ k, if_pos (Finset.mem_univ _)]

end Cert.Exchange

end
-- ==== Proof.Moved.lean ====
module

public import proofs.«01_k».proof.Proof.Prefix
public import proofs.«01_k».proof.Proof.Body

@[expose] public section

noncomputable section

/-! # Where one device puts its rows

A row that leaves goes to the place, in the send buffer, that counts the leaving rows before it; a row that stays goes
to the place, in the result, that counts the staying rows before it. Both are shifted on one half of the mesh. -/

namespace Cert.Exchange

open Cert.KernelIdeal Cert.KernelIdeal.Gen
open Idealize.ShloMosaic
open Idealize.ShloMosaic.TcCoe
open Idealize.ShloMosaic.ValueIdx
open scoped BigOperators

/-- Marked rows have different places. -/
theorem before_lt (v : IVec S1x512 1) {k k' : Fin 512} (hk : v (at0 k) = 1#1) (h : k < k') : before v k < before v k' := by
  have := upto_marked v k hk
  have hle : upto v k ≤ before v k' := Finset.card_le_card fun i hi => by
    simp only [Finset.mem_filter, Finset.mem_univ, true_and] at hi ⊢
    exact ⟨hi.1, lt_of_le_of_lt hi.2 h⟩
  omega

theorem before_inj (v : IVec S1x512 1) {k k' : Fin 512} (hk : v (at0 k) = 1#1) (hk' : v (at0 k') = 1#1) (h : before v k = before v k') : k = k' := by
  rcases lt_trichotomy k k' with l | e | l
  · have := before_lt v hk l; omega
  · exact e
  · have := before_lt v hk' l; omega

/-- A row vector repeated down the rows of a table. -/
theorem down {α : Type} (v : S1x512.Idx → α) (h : S1x512.Broadcasts S512x512) (r k : Fin 512) :
    broadcastTo S512x512 v h (ix2 r k) = v (at0 k) := by
  unfold broadcastTo
  refine congrArg v (funext fun a => ?_)
  fin_cases a <;> rfl

theorem and_one {a b : BitVec 1} : a &&& b = 1#1 ↔ a = 1#1 ∧ b = 1#1 := by revert a b; decide

theorem word_inj {a b : ℕ} (ha : a < 2 ^ 32) (hb : b < 2 ^ 32) : BitVec.ofNat 32 a = BitVec.ofNat 32 b ↔ a = b := by
  refine ⟨fun h => ?_, fun h => h ▸ rfl⟩
  have := congrArg BitVec.toNat h
  rw [BitVec.toNat_ofNat, BitVec.toNat_ofNat, Nat.mod_eq_of_lt ha, Nat.mod_eq_of_lt hb] at this
  exact this

/-- The word for a leaving row's place. -/
theorem send_word {b n p : ℕ} (hb : b < 512) (hn : n ≤ 512) (hp : p < 2) :
    BitVec.ofNat 32 (b + 1) - 1#32 + BitVec.ofNat 32 p * (BitVec.ofNat 32 (nch n) * 64#32 - BitVec.ofNat 32 n) = BitVec.ofNat 32 (b + p * (64 * nch n - n)) := by
  have h1 := le_nch n
  have h8 := nch_le hn
  have e1 : BitVec.ofNat 32 (b + 1) - 1#32 = BitVec.ofNat 32 b := by
    rw [BitVec.ofNat_add]; simp
  have e2 : BitVec.ofNat 32 (nch n) * 64#32 - BitVec.ofNat 32 n = BitVec.ofNat 32 (64 * nch n - n) := by
    refine BitVec.eq_of_toNat_eq ?_
    rw [BitVec.toNat_sub, BitVec.toNat_mul]
    simp only [BitVec.toNat_ofNat]
    omega
  rw [e1, e2, BitVec.ofNat_add, BitVec.ofNat_mul]

/-- The word for a staying row's place. -/
theorem keep_word {k u n p : ℕ} (hu : u ≤ k) (hk : k < 512) (hn : n ≤ 512) (hp : p < 2) :
    BitVec.ofNat 32 k + 1#32 - BitVec.ofNat 32 u - 1#32 + BitVec.ofNat 32 p * BitVec.ofNat 32 n = BitVec.ofNat 32 (k - u + p * n) := by
  have e1 : BitVec.ofNat 32 k + 1#32 - BitVec.ofNat 32 u - 1#32 = BitVec.ofNat 32 (k - u) := by
    refine BitVec.eq_of_toNat_eq ?_
    rw [BitVec.toNat_sub, BitVec.toNat_sub, BitVec.toNat_add]
    simp only [BitVec.toNat_ofNat]
    omega
  rw [e1, BitVec.ofNat_add, BitVec.ofNat_mul]

variable (m : (ℓ : Loc nD τ sig) → Buf (Elt Ideal) ℓ)

/-- The rows that leave a device, and those that stay. -/
def goes (c : Dev nD) : IVec S1x512 1 := k0_pay2 (F := Ideal) c (dC m c)
def stays (c : Dev nD) : IVec S1x512 1 := k0_pay8 (xW c) (k0_pay1 (F := Ideal) (dC m c))

theorem goes_iff (c : Dev nD) (k : Fin 512) : goes m c (at0 k) = 1#1 ↔ ¬ (dC m c (at0 k) : BitVec 32) = xW c := by
  unfold goes k0_pay2 k0_pay1
  rw [shapeCast_self]
  show BitVec.ofBool ((dC m c (at0 k) : BitVec 32) != xW c) = 1#1 ↔ _
  rw [ofBool_one, bne_iff_ne]

theorem stays_iff (c : Dev nD) (k : Fin 512) : stays m c (at0 k) = 1#1 ↔ (dC m c (at0 k) : BitVec 32) = xW c := by
  unfold stays k0_pay8 k0_pay1
  rw [shapeCast_self]
  show BitVec.ofBool ((dC m c (at0 k) : BitVec 32) == xW c) = 1#1 ↔ _
  rw [ofBool_one, beq_iff_eq]

theorem opposite (c : Dev nD) (k : Fin 512) : stays m c (at0 k) = 1#1 ↔ ¬ goes m c (at0 k) = 1#1 := by
  rw [stays_iff, goes_iff, not_not]

theorem sN_cnt (c : Dev nD) : sN m c = cnt (goes m c) := sum_word _

theorem mask_real (c : Dev nD) (k : Fin 512) : k0_pay3 (F := Ideal) c (dC m c) (at0 k) = if goes m c (at0 k) = 1#1 then 1 else 0 := by
  unfold k0_pay3
  exact sitofp_bit _ _ _

/-- The table of the leaving rows' places. -/
theorem send_table (c : Dev nD) (r k : Fin 512) :
    k0_pay6 (xW c) (k0_pay2 (F := Ideal) c (dC m c)) (k0_pay3 c (dC m c)) iota0 (ix2 r k) = 1#1
      ↔ goes m c (at0 k) = 1#1 ∧ before (goes m c) k + xN c * (64 * nC m c - sN m c) = r.val := by
  have e : k0_pay6 (xW c) (k0_pay2 (F := Ideal) c (dC m c)) (k0_pay3 c (dC m c)) iota0 (ix2 r k)
      = BitVec.ofBool ((fptosi 32 (k0_pay4 (k0_pay3 (F := Ideal) c (dC m c)) iota0) : IVec S1x512 32) (at0 k) - 1#32 + xW c * (nchW (sW m c) * 64#32 - sW m c) == iota0 (ix2 r k))
        &&& goes m c (at0 k) := by
    refine congrArg₂ (· &&& ·) ?_ (down _ _ r k)
    exact congrArg (fun w => BitVec.ofBool (w == iota0 (ix2 r k))) (down _ _ r k)
  have hr := r.isLt
  have hx := xN_lt c
  have hs := sN_le m c
  rw [e, and_one, and_comm]
  refine and_congr_right fun hk => ?_
  have hb := (before_le (goes m c) k).trans_lt k.isLt
  have h8 := nC_le m c
  have hpad : xN c * (64 * nC m c - sN m c) ≤ 512 := by
    calc xN c * (64 * nC m c - sN m c) ≤ 1 * (64 * nC m c - sN m c) := Nat.mul_le_mul_right _ (by omega)
      _ ≤ 512 := by omega
  rw [ofBool_one, beq_iff_eq, cum_word (goes m c) _ (mask_real m c) k, upto_marked _ _ hk, iota0_at, sW_eq, nchW_eq hs, xW_eq,
    send_word hb hs hx]
  exact word_inj (by unfold nC at hpad; omega) (by omega)

/-- A row that leaves stands at its place in the send buffer. -/
theorem sent_at (c : Dev nD) (k r : Fin 512) (l : Fin 256) (hk : goes m c (at0 k) = 1#1)
    (hr : before (goes m c) k + xN c * (64 * nC m c - sN m c) = r.val) : sC m c (ix2 r l) = xC m c (ix2 k l) := by
  unfold sC k0_pay7
  simp only [shapeCast_self]
  refine pick _ _ r k (fun k' => ?_) l
  rw [send_table]
  constructor
  · rintro ⟨h1, h2⟩
    exact before_inj (goes m c) h1 hk (by omega)
  · rintro rfl
    exact ⟨hk, hr⟩

/-- A row that stays stands at its place among the kept rows. -/
theorem kept_at (c : Dev nD) (k r : Fin 512) (l : Fin 256) (hk : stays m c (at0 k) = 1#1)
    (hr : before (stays m c) k + xN c * sN m (peer c) = r.val) : keptRows m c (ix2 r l) = xC m c (ix2 k l) := by
  have table : ∀ k', andi (cmpi .eq (broadcastTo S512x512 (addi (k0_pay9 iota1 (cumF m c)) (broadcast S1x512 (Scalar.muli (xW c) (sW m (peer c))))) broadcasts_S1x512_S512x512) iota0)
        (broadcastTo S512x512 (stays m c) broadcasts_S1x512_S512x512) (ix2 r k') = 1#1
      ↔ stays m c (at0 k') = 1#1 ∧ before (stays m c) k' + xN c * sN m (peer c) = r.val := fun k' => by
    have e : andi (cmpi .eq (broadcastTo S512x512 (addi (k0_pay9 iota1 (cumF m c)) (broadcast S1x512 (Scalar.muli (xW c) (sW m (peer c))))) broadcasts_S1x512_S512x512) iota0)
          (broadcastTo S512x512 (stays m c) broadcasts_S1x512_S512x512) (ix2 r k')
        = BitVec.ofBool (k0_pay9 iota1 (cumF m c) (at0 k') + xW c * sW m (peer c) == iota0 (ix2 r k')) &&& stays m c (at0 k') := by
      refine congrArg₂ (· &&& ·) ?_ (down _ _ r k')
      exact congrArg (fun w => BitVec.ofBool (w == iota0 (ix2 r k'))) (down _ _ r k')
    have e9 : k0_pay9 iota1 (cumF m c) (at0 k') = BitVec.ofNat 32 k'.val + 1#32 - BitVec.ofNat 32 (upto (goes m c) k') - 1#32 := by
      have h0 : extractStridedSlice S1x512 ![0, 0] iota1 slices_S512x512_o0_0_S1x512 (at0 k') = BitVec.ofNat 32 k'.val := by
        rw [← iota1_at 0 k']
        unfold extractStridedSlice
        refine congrArg iota1 (funext fun a => Fin.ext ?_)
        fin_cases a <;> simp
      have h1 := cum_word (goes m c) _ (mask_real m c) k'
      show extractStridedSlice S1x512 ![0, 0] iota1 slices_S512x512_o0_0_S1x512 (at0 k') + 1#32
        - (fptosi 32 (k0_pay4 (k0_pay3 (F := Ideal) c (dC m c)) iota0) : IVec S1x512 32) (at0 k') - 1#32 = _
      rw [h0, h1]
    have hr' := r.isLt
    have hx := xN_lt c
    have hs := sN_le m (peer c)
    rw [e, and_one, and_comm]
    refine and_congr_right fun hk' => ?_
    have hadd := before_add (stays m c) (goes m c) (opposite m c) k'
    have hu := upto_unmarked (goes m c) k' ((opposite m c k').mp hk')
    have hkl := k'.isLt
    have hpad : xN c * sN m (peer c) ≤ 512 := by
      calc xN c * sN m (peer c) ≤ 1 * sN m (peer c) := Nat.mul_le_mul_right _ (by omega)
        _ ≤ 512 := by omega
    rw [ofBool_one, beq_iff_eq, e9, hu, iota0_at, sW_eq, xW_eq, keep_word (by omega) hkl hs hx,
      show k'.val - before (goes m c) k' = before (stays m c) k' by omega]
    exact word_inj (by omega) (by omega)
  unfold keptRows k0_pay11
  simp only [shapeCast_self]
  refine pick _ _ r k (fun k' => ?_) l
  refine (table k').trans ?_
  constructor
  · rintro ⟨h1, h2⟩
    exact before_inj (stays m c) h1 hk (by omega)
  · rintro rfl
    exact ⟨hk, hr⟩

/-- The kept rows' span. -/
theorem result_at (c : Dev nD) (g : (cc0_stg2_0 : Ref sig .tc).ty.Contents (Elt Ideal)) (r : Fin 512) (l : Fin 256) :
    result m c g (ix2 r l) = if xN c * sN m (peer c) ≤ r.val ∧ r.val < xN c * sN m (peer c) + (512 - sN m c) then keptRows m c (ix2 r l) else g (ix2 r l) := by
  have hr := r.isLt
  have hx := xN_lt c
  have hs := sN_le m (peer c)
  have hs' := sN_le m c
  have hpad : xN c * sN m (peer c) ≤ 512 := by
    calc xN c * sN m (peer c) ≤ 1 * sN m (peer c) := Nat.mul_le_mul_right _ (by omega)
      _ ≤ 512 := by omega
  have w1 : Scalar.muli (xW c) (sW m (peer c)) = BitVec.ofNat 32 (xN c * sN m (peer c)) := by
    rw [sW_eq, xW_eq]; exact (BitVec.ofNat_mul ..).symm
  have w2 : Scalar.subi 512#32 (sW m c) = BitVec.ofNat 32 (512 - sN m c) := by
    rw [sW_eq]
    show 512#32 - BitVec.ofNat 32 (sN m c) = _
    refine BitVec.eq_of_toNat_eq ?_
    rw [BitVec.toNat_sub]
    simp only [BitVec.toNat_ofNat]
    omega
  have i0 : iota .tc S512x1 32 [0] iota_S512x1_d0_w32 (ix2 r (0 : Fin 1)) = BitVec.ofNat 32 r.val := iota_single_apply .tc S512x1 32 0 _ _
  have across : ∀ (v : IVec S512x1 1) (h : S512x1.Broadcasts S512x256), broadcastTo S512x256 v h (ix2 r l) = v (ix2 r (0 : Fin 1)) := fun v h => by
    unfold broadcastTo
    refine congrArg v (funext fun a => ?_)
    fin_cases a <;> rfl
  unfold result k0_pay12
  rw [w1, w2]
  simp only [shapeCast_self]
  show (if broadcastTo S512x256 _ _ (ix2 r l) = 1#1 then _ else _) = _
  rw [across]
  refine if_congr ?_ rfl rfl
  show BitVec.ofBool ((BitVec.ofNat 32 (xN c * sN m (peer c))).sle (iota .tc S512x1 32 [0] iota_S512x1_d0_w32 (ix2 r (0 : Fin 1))))
    &&& BitVec.ofBool ((iota .tc S512x1 32 [0] iota_S512x1_d0_w32 (ix2 r (0 : Fin 1))).slt (BitVec.ofNat 32 (xN c * sN m (peer c)) + BitVec.ofNat 32 (512 - sN m c))) = 1#1 ↔ _
  rw [i0, ← BitVec.ofNat_add, and_one, ofBool_one, ofBool_one, BitVec.sle_eq_decide, BitVec.slt_eq_decide, toInt_small (by omega), toInt_small (by omega),
    toInt_small (by omega), decide_eq_true_eq, decide_eq_true_eq]
  omega

end Cert.Exchange

end
-- ==== Proof.Placed.lean ====
module

public import proofs.«01_k».proof.Proof.Moved
public import proofs.«01_k».proof.Proof.Main

@[expose] public section

noncomputable section

/-! # One device's result, row by row

Where as many rows leave one half of the mesh as leave the other, every row that belongs to a device is found in its
result: the rows it keeps, and the rows its peer sends. -/

namespace Cert.Exchange

open Cert.KernelIdeal Cert.KernelIdeal.Gen
open Idealize.ShloMosaic
open Idealize.ShloMosaic.TcCoe
open Idealize.ShloMosaic.ValueIdx

variable (m : (ℓ : Loc nD τ sig) → Buf (Elt Ideal) ℓ)

theorem cnt_stays (c : Dev nD) : cnt (stays m c) + sN m c = 512 := by
  rw [sN_cnt]
  exact cnt_add _ _ (opposite m c)

/-- A row that stays is in the result. -/
theorem own_row (c : Dev nD) (g : (cc0_stg2_0 : Ref sig .tc).ty.Contents (Elt Ideal)) (k r : Fin 512) (l : Fin 256)
    (hk : stays m c (at0 k) = 1#1) (hr : before (stays m c) k + xN c * sN m (peer c) = r.val) :
    result m c g (ix2 r l) = xC m c (ix2 k l) := by
  have h1 := before_lt_cnt _ _ hk
  have h2 := cnt_stays m c
  rw [result_at, if_pos ⟨by omega, by omega⟩]
  exact kept_at m c k r l hk hr

/-- A row that the peer sends is in the result. -/
theorem peer_row (c : Dev nD) (g : (cc0_stg2_0 : Ref sig .tc).ty.Contents (Elt Ideal)) (hg : Received m c g) (hbal : sN m c = sN m (peer c))
    (k r : Fin 512) (l : Fin 256) (hk : goes m (peer c) (at0 k) = 1#1)
    (hr : before (goes m (peer c)) k + (1 - xN c) * (512 - sN m c) = r.val) :
    result m c g (ix2 r l) = xC m (peer c) (ix2 k l) := by
  have h1 := before_lt_cnt _ _ hk
  rw [← sN_cnt] at h1
  have hrl := r.isLt
  have hn : nC m (peer c) = (sN m (peer c) + 63) / 64 := rfl
  have hs := sN_le m (peer c)
  have h8 := nC_le m (peer c)
  have hxp := xN_peer c
  have hx : xN c = 0 ∨ xN c = 1 := by have := xN_lt c; omega
  -- the place among the rows sent
  have hfrom : before (goes m (peer c)) k + xN (peer c) * (64 * nC m (peer c) - sN m (peer c)) = (fromRow m c r).val := by
    show _ = (r.val + 512 - 64 * base (peer c) (nC m (peer c))) % 512
    unfold base
    rcases hx with hx | hx <;> rw [hx] at hr hxp <;> rw [hxp] <;> omega
  -- the chunk it lands in
  have hlt : (fromRow m c r).val < 64 * nC m (peer c) := by
    rw [← hfrom]
    rcases hx with hx | hx <;> rw [hx] at hxp <;> rw [hxp] <;> omega
  have hj : (fromRow m c r).val / 64 < nC m (peer c) := by omega
  let j : Fin 8 := ⟨(fromRow m c r).val / 64, by omega⟩
  have hplace : (place m (peer c) j).val = base (peer c) (nC m (peer c)) + j.val := slot_val (peer c) h8 hj
  have hin : ix2 r l ∈ (chunkR (place m (peer c) j)).set := by
    rw [mem_chunk]
    show 64 * (place m (peer c) j).val ≤ r.val ∧ r.val < 64 * (place m (peer c) j).val + 64
    rw [hplace]
    show 64 * (base (peer c) (nC m (peer c)) + (fromRow m c r).val / 64) ≤ r.val ∧ r.val < 64 * (base (peer c) (nC m (peer c)) + (fromRow m c r).val / 64) + 64
    rw [← hfrom]
    unfold base
    rcases hx with hx | hx <;> rw [hx] at hr hxp <;> rw [hxp] <;> omega
  have hout : ¬ (xN c * sN m (peer c) ≤ r.val ∧ r.val < xN c * sN m (peer c) + (512 - sN m c)) := by
    rcases hx with hx | hx <;> rw [hx] at hr ⊢ <;> omega
  rw [result_at, if_neg hout, hg j hj _ hin]
  exact sent_at m (peer c) k (fromRow m c r) l hk hfrom

end Cert.Exchange

end
-- ==== Proof.Value.lean ====
module

public import proofs.«01_k».proof.Proof.Halves
public import proofs.«01_k».proof.Proof.Placed
public import proofs.«01_k».proof.Proof.Frames

@[expose] public section

noncomputable section

/-! # The value

Each device's result is its half of the reference's. -/

namespace Cert.Exchange

open Cert.KernelIdeal Cert.KernelIdeal.Gen
open Idealize.ShloMosaic
open Idealize.ShloMosaic.TcCoe Idealize.SL.Sem
open Idealize.ShloMosaic.ValueIdx

/-- The half of the rows that a device holds. -/
def half (c : Dev nD) : Fin 2 := ⟨xN c, xN_lt c⟩

theorem half_lin (c : Dev nD) : Layout.meshLin [2, 2, 2] c.val [0] = xN c := by revert c; decide

/-- A device's block of the array, and of the destinations. -/
theorem block_x {α : Type} (c : Dev nD) (x : (⟨2, ![1024, 256]⟩ : Shape).Idx → α) (k : Fin 512) (l : Fin 256) :
    (Layout.blockN ⟨2, ![512, 256]⟩ ⟨2, ![1024, 256]⟩ (Layout.meshBlock [2, 2, 2] ![[0], []] c) x) (ix2 k l) = x (ix2 (row (half c) k) l) := by
  rw [Layout.blockN_apply]
  refine congrArg x (funext fun a => Fin.ext ?_)
  rw [Layout.TilesN.idx_val, Layout.meshBlock_val]
  match a with
  | ⟨0, _⟩ =>
    show Layout.meshLin [2, 2, 2] c.val [0] * 512 + k.val = 512 * xN c + k.val
    rw [half_lin, Nat.mul_comm]
  | ⟨1, _⟩ =>
    show 0 * 256 + l.val = l.val
    omega

theorem block_d {α : Type} (c : Dev nD) (d : (⟨2, ![2, 512]⟩ : Shape).Idx → α) (k : Fin 512) :
    (Layout.blockN ⟨2, ![1, 512]⟩ ⟨2, ![2, 512]⟩ (Layout.meshBlock [2, 2, 2] ![[0], []] c) d) (at0 k) = d (ix2 (half c) k) := by
  rw [Layout.blockN_apply]
  refine congrArg d (funext fun a => Fin.ext ?_)
  rw [Layout.TilesN.idx_val, Layout.meshBlock_val]
  match a with
  | ⟨0, _⟩ =>
    show Layout.meshLin [2, 2, 2] c.val [0] * 1 + 0 = xN c
    rw [half_lin]
    omega
  | ⟨1, _⟩ =>
    show 0 * 512 + k.val = k.val
    omega

variable (m : (ℓ : Loc nD τ sig) → Buf (Elt Ideal) ℓ) (x : FVec Ideal (⟨2, ![1024, 256]⟩ : Shape) .f32) (d : Dests)

/-- The devices hold the halves of the whole arguments. -/
def Holds : Prop := ∀ c : Dev nD, (∀ k l, xC m c (ix2 k l) = x (ix2 (row (half c) k) l)) ∧ ∀ k, (dC m c (at0 k) : BitVec 32) = d (ix2 (half c) k)

variable {m x d}

theorem binary_of (hH : Holds m x d) (hT : TwoWays m) : Binary d := fun b k => by
  obtain ⟨c, hc⟩ : ∃ c : Dev nD, half c = b := by revert b; decide
  rw [← hc, ← (hH c).2 k]
  exact hT c (at0 k)

/-- A destination that is not one place is the other. -/
theorem other_place (w : BitVec 32) (hw : w = 0#32 ∨ w = 1#32) (c : Dev nD) : (¬ w = xW c) ↔ w = xW (peer c) := by
  rw [xW_eq, xW_eq, xN_peer]
  rcases hw with h | h <;> rcases xN_cases c with hx | hx <;> rw [h, hx] <;> decide

theorem goes_tot (hH : Holds m x d) (hT : TwoWays m) (c : Dev nD) : sN m c = tot d (xW (peer c)) (half c) := by
  rw [sN_cnt]
  refine congrArg Finset.card (Finset.filter_congr fun k _ => ?_)
  refine (goes_iff m c k).trans ?_
  rw [(hH c).2]
  exact other_place _ (binary_of hH hT _ _) c

theorem before_stays (hH : Holds m x d) (c : Dev nD) (k : Fin 512) : before (stays m c) k = bef d (xW c) (half c) k := by
  refine congrArg Finset.card (Finset.filter_congr fun k' _ => ?_)
  rw [stays_iff, (hH c).2]

theorem before_goes (hH : Holds m x d) (hT : TwoWays m) (c : Dev nD) (k : Fin 512) :
    before (goes m (peer c)) k = bef d (xW c) (half (peer c)) k := by
  refine congrArg Finset.card (Finset.filter_congr fun k' _ => ?_)
  have h := other_place _ (binary_of hH hT (half (peer c)) k') (peer c)
  rw [peer_peer] at h
  rw [goes_iff, (hH (peer c)).2, h]

/-- Where the mask holds, a device's result is its half of the reference's. -/
theorem agrees (hH : Holds m x d) (hT : TwoWays m) (hb : tot d 0#32 0 + tot d 0#32 1 = 512)
    (c : Dev nD) (g : (cc0_stg2_0 : Ref sig .tc).ty.Contents (Elt Ideal)) (hg : Received m c g) (r : Fin 512) (l : Fin 256) :
    result m c g (ix2 r l) = sorted x d (ix2 (row (half c) r) l) := by
  have hB := binary_of hH hT
  obtain ⟨q, hq⟩ := (posF_bijective (key d)).2 (row (half c) r)
  obtain ⟨b, k, rfl⟩ := row_surj q
  rw [← hq, sorted_at]
  have hv : pos (key d) (row b k) = 512 * xN c + r.val := congrArg Fin.val hq
  have hr := r.isLt
  have t0 := tot_add hB 0
  have t1 := tot_add hB 1
  have gc := goes_tot hH hT c
  have gp := goes_tot hH hT (peer c)
  rw [peer_peer] at gp
  have own : half c = b → d (ix2 b k) = xW c → before (stays m c) k + xN c * sN m (peer c) = r.val →
      result m c g (ix2 r l) = x (ix2 (row b k) l) := fun e hd hr' => by
    rw [own_row m c g k r l ((stays_iff m c k).2 (by rw [(hH c).2, e]; exact hd)) hr', (hH c).1, e]
  have other : half (peer c) = b → d (ix2 b k) = xW c → sN m c = sN m (peer c) → before (goes m (peer c)) k + (1 - xN c) * (512 - sN m c) = r.val →
      result m c g (ix2 r l) = x (ix2 (row b k) l) := fun e hd hbal hr' => by
    refine (peer_row m c g hg hbal k r l ((goes_iff m (peer c) k).2 ?_) hr').trans ?_
    · rw [(hH (peer c)).2, e]
      refine (other_place _ (hB b k) (peer c)).2 ?_
      rw [peer_peer]
      exact hd
    · rw [(hH (peer c)).1, e]
  have bs := before_stays hH c k
  have bg := before_goes hH hT c k
  have p0 : ∀ c : Dev nD, xN c = 0 → half c = 0 ∧ half (peer c) = 1 ∧ xW c = 0#32 ∧ xW (peer c) = 1#32 := by decide
  have p1 : ∀ c : Dev nD, xN c = 1 → half c = 1 ∧ half (peer c) = 0 ∧ xW c = 1#32 ∧ xW (peer c) = 0#32 := by decide
  have q0 : b = 0 ∨ b = 1 := by omega
  rcases hB b k with hd | hd
  · -- a row for place 0
    have hlt := bef_lt d _ b k hd
    rcases q0 with rfl | rfl
    · rw [pos_zero_first hB k hd] at hv
      rcases xN_cases c with hx | hx
      · obtain ⟨e1, e2, e3, e4⟩ := p0 c hx
        rw [e1, e3] at bs
        exact own e1 (by rw [hd, e3]) (by rw [bs, hx]; omega)
      · rw [hx] at hv; omega
    · rw [pos_zero_second hB k hd] at hv
      rcases xN_cases c with hx | hx
      · obtain ⟨e1, e2, e3, e4⟩ := p0 c hx
        rw [e2, e3] at bg
        rw [e1, e4] at gc
        rw [e2, e3] at gp
        exact other e2 (by rw [hd, e3]) (by omega) (by rw [bg, hx, gc]; omega)
      · rw [hx] at hv; omega
  · -- a row for place 1
    have hlt := bef_lt d _ b k hd
    rcases q0 with rfl | rfl
    · rw [pos_one_first hB k hd] at hv
      rcases xN_cases c with hx | hx
      · rw [hx] at hv; omega
      · obtain ⟨e1, e2, e3, e4⟩ := p1 c hx
        rw [e2, e3] at bg
        rw [e1, e4] at gc
        rw [e2, e3] at gp
        exact other e2 (by rw [hd, e3]) (by omega) (by rw [bg, hx]; omega)
    · rw [pos_one_second hB k hd] at hv
      rcases xN_cases c with hx | hx
      · rw [hx] at hv; omega
      · obtain ⟨e1, e2, e3, e4⟩ := p1 c hx
        rw [e1, e3] at bs
        rw [e2, e3] at gp
        exact own e1 (by rw [hd, e3]) (by rw [bs, hx, gp]; omega)

theorem value : Cert.algebraic_KernelIdeal_ReferenceIdeal_on_balanced := fun m g m' g' hpre hag => by
  have hT := two_ways_of_pre m hpre
  have hH : Holds m (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)) := fun c =>
    ⟨fun k l => by rw [xC_eq, (hag c).1]; exact block_x c _ k l, fun k => by rw [dC_eq, (hag c).2]; exact block_d c _ k⟩
  refine ⟨sorted (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)), ?_, ?_⟩
  · refine (θ_run defs _ _).mono (fun r h c => ⟨fun i hi => ?_, (h.1 c).1, (h.1 c).2.1⟩) (run_main (F := Ideal) m g (agree m hT))
    obtain ⟨X, hX, hr⟩ := (h.1 c).2.2
    obtain ⟨k, l, rfl⟩ : ∃ (k : Fin 512) (l : Fin 256), i = ix2 k l := ⟨i 0, i 1, eq_ix2 i⟩
    have hi' := (block_x c _ k l).symm.trans hi
    exact (congrFun hr (ix2 k l)).trans ((agrees hH hT (balanced_iff _ _ hi') c X hX k l).trans (block_x c _ k l).symm)
  · exact (θ_run _ _ _).mono (fun r h => ⟨fun i _ => congrFun (h 0).1 i, (h 0).2.1, (h 0).2.2⟩) (Cert.ReferenceIdeal.Value.run (F := Ideal) m' g')

end Cert.Exchange

end
-- ==== Proof.lean ====
/- The assembled claim. Each conjunct is proved in its own module. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_two_ways_Kernel
public import proofs.«01_k».proof.Proof.Gen.Pre_two_ways_ReferenceIdeal
public import proofs.«01_k».proof.Proof.Gen.On_balanced
public import proofs.«01_k».proof.Proof.Frames
public import proofs.«01_k».proof.Proof.Reference
public import proofs.«01_k».proof.Proof.Value
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_two_ways_Kernel.Gen.facts, Cert.Pre_two_ways_ReferenceIdeal.Gen.facts, Cert.On_balanced.Gen.facts,
  Cert.Exchange.frame_kernel, Cert.Exchange.frame_kernelIdeal, Cert.Exchange.frame_reference, Cert.Exchange.frame_reference_two_ways, trivial, Cert.Exchange.value⟩

end Cert.Proof

end
